-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unmasked_finite [hPre_unmasked_finite : Cert.Pre_unmasked_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unmasked_finite [hPre_unmasked_finite : Cert.Pre_unmasked_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_unmasked_finite [hKernelIdeal : Cert.KernelIdeal.Facts] [hPre_unmasked_finite : Cert.Pre_unmasked_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmasked_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_unmasked_finite [hReferenceIdeal : Cert.ReferenceIdeal.Facts] [hPre_unmasked_finite : Cert.Pre_unmasked_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unmasked_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "far" .f32 0x501502F9#32 ⊤
  ∧ IdealRules.named_const.Statement Cert.KernelIdeal.κ "rbf_step" .f32 0x3FAAAAAB#32 ((4 / 3 : ℝ) : EReal)

def algebraic_KernelIdeal_ReferenceIdeal_pre_unmasked_finite [hKernelIdeal : Cert.KernelIdeal.Facts] [hReferenceIdeal : Cert.ReferenceIdeal.Facts] [hPre_unmasked_finite : Cert.Pre_unmasked_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unmasked_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v332) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_unmasked_finite : Cert.Pre_unmasked_finite.Facts),
    quiescent_Kernel (hKernel := hKernel)
    ∧ quiescent_KernelIdeal (hKernelIdeal := hKernelIdeal)
    ∧ quiescent_KernelIdeal_pre_unmasked_finite (hKernelIdeal := hKernelIdeal) (hPre_unmasked_finite := hPre_unmasked_finite)
    ∧ quiescent_ReferenceIdeal (hReferenceIdeal := hReferenceIdeal)
    ∧ quiescent_ReferenceIdeal_pre_unmasked_finite (hReferenceIdeal := hReferenceIdeal) (hPre_unmasked_finite := hPre_unmasked_finite)
    ∧ preserves_Kernel_KernelIdeal
    ∧ algebraic_KernelIdeal_ReferenceIdeal_pre_unmasked_finite (hKernelIdeal := hKernelIdeal) (hReferenceIdeal := hReferenceIdeal) (hPre_unmasked_finite := hPre_unmasked_finite)
-- ==== Pre_unmasked_finite.lean ====
abbrev S4096x128 : Shape := ⟨2, ![4096, 128]⟩
abbrev S4096 : Shape := ⟨1, ![4096]⟩
abbrev S9 : Shape := ⟨1, ![9]⟩
abbrev S128x9 : Shape := ⟨2, ![128, 9]⟩
abbrev S3x128x128 : Shape := ⟨3, ![3, 128, 128]⟩
abbrev S3x272x128 : Shape := ⟨3, ![3, 272, 128]⟩
abbrev S3x128x3 : Shape := ⟨3, ![3, 128, 3]⟩
abbrev S_ : Shape := ⟨0, ![]⟩
abbrev S1x128x128 : Shape := ⟨3, ![1, 128, 128]⟩
abbrev S2x272x128 : Shape := ⟨3, ![2, 272, 128]⟩
abbrev S2x128x3 : Shape := ⟨3, ![2, 128, 3]⟩

class Facts : Prop where
  reducesTo_S4096_S_d0 : S4096.ReducesTo [0] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x9 : S_.BroadcastsInDim S128x9 (![] : Fin 0 → Fin S128x9.rank)
  reducesTo_S128x9_S_d0_1 : S128x9.ReducesTo [0, 1] S_
  slices_S3x128x128_S1x128x128_0_0_0 : S3x128x128.Slices ![0, 0, 0] S1x128x128
  bcast_S_S1x128x128 : S_.BroadcastsInDim S1x128x128 (![] : Fin 0 → Fin S1x128x128.rank)
  reducesTo_S1x128x128_S_d0_1_2 : S1x128x128.ReducesTo [0, 1, 2] S_
  slices_S3x272x128_S2x272x128_0_0_0 : S3x272x128.Slices ![0, 0, 0] S2x272x128
  bcast_S_S2x272x128 : S_.BroadcastsInDim S2x272x128 (![] : Fin 0 → Fin S2x272x128.rank)
  reducesTo_S2x272x128_S_d0_1_2 : S2x272x128.ReducesTo [0, 1, 2] S_
  slices_S3x128x3_S2x128x3_0_0_0 : S3x128x3.Slices ![0, 0, 0] S2x128x3
  bcast_S_S2x128x3 : S_.BroadcastsInDim S2x128x3 (![] : Fin 0 → Fin S2x128x3.rank)
  reducesTo_S2x128x3_S_d0_1_2 : S2x128x3.ReducesTo [0, 1, 2] S_

variable [Facts]

def fn_part1 {F : FTy → Type} [FloatOps F] (main_arg6 : FVec F S3x272x128 .f32) (main_arg7 : FVec F S3x128x3 .f32) (main_v16 : IVec S_ 1) : IVec S_ 1 :=
  let main_v17 : FVec F S2x272x128 .f32 := (extractStridedSlice S2x272x128 ![0, 0, 0] · slices_S3x272x128_S2x272x128_0_0_0) main_arg6
  let main_v18 : FVec F S2x272x128 .f32 := Host.absf main_v17
  let main_cst_5 : FVec F S_ .f32 := constant S_ .f32 0x7F800000#32
  let main_v19 : FVec F S2x272x128 .f32 := broadcastInDim S2x272x128 ![] bcast_S_S2x272x128 main_cst_5
  let main_v20 : IVec S2x272x128 1 := cmpf .olt main_v18 main_v19
  let main_c_6 : IVec S_ 1 := constantI S_ 1 1#1
  let main_v21 : IVec S_ 1 := (fun x v => Host.reduce IntOp.andi x v reducesTo_S2x272x128_S_d0_1_2 h_S_) main_v20 main_c_6
  let main_v22 : IVec S_ 1 := andi main_v16 main_v21
  let main_v23 : FVec F S2x128x3 .f32 := (extractStridedSlice S2x128x3 ![0, 0, 0] · slices_S3x128x3_S2x128x3_0_0_0) main_arg7
  let main_v24 : FVec F S2x128x3 .f32 := Host.absf main_v23
  let main_cst_7 : FVec F S_ .f32 := constant S_ .f32 0x7F800000#32
  let main_v25 : FVec F S2x128x3 .f32 := broadcastInDim S2x128x3 ![] bcast_S_S2x128x3 main_cst_7
  let main_v26 : IVec S2x128x3 1 := cmpf .olt main_v24 main_v25
  let main_c_8 : IVec S_ 1 := constantI S_ 1 1#1
  let main_v27 : IVec S_ 1 := (fun x v => Host.reduce IntOp.andi x v reducesTo_S2x128x3_S_d0_1_2 h_S_) main_v26 main_c_8
  let main_v28 : IVec S_ 1 := andi main_v22 main_v27
  main_v28

def fn {F : FTy → Type} [FloatOps F] (main_arg0 : FVec F S4096x128 .f32) (main_arg1 : IVec S4096 1) (main_arg2 : IVec S4096 32) (main_arg3 : IVec S9 32) (main_arg4 : FVec F S128x9 .f32) (main_arg5 : FVec F S3x128x128 .f32) (main_arg6 : FVec F S3x272x128 .f32) (main_arg7 : FVec F S3x128x3 .f32) : IVec S_ 1 :=
  let main_c : IVec S_ 1 := constantI S_ 1 1#1
  let main_v0 : IVec S_ 1 := (fun x v => Host.reduce IntOp.andi x v reducesTo_S4096_S_d0 h_S_) main_arg1 main_c
  let main_v1 : FVec F S4096x128 .f32 := Host.absf main_arg0
  let main_cst : FVec F S_ .f32 := constant S_ .f32 0x7F800000#32
  let main_v2 : FVec F S4096x128 .f32 := broadcastInDim S4096x128 ![] bcast_S_S4096x128 main_cst
  let main_v3 : IVec S4096x128 1 := cmpf .olt main_v1 main_v2
  let main_c_0 : IVec S_ 1 := constantI S_ 1 1#1
  let main_v4 : IVec S_ 1 := (fun x v => Host.reduce IntOp.andi x v reducesTo_S4096x128_S_d0_1 h_S_) main_v3 main_c_0
  let main_v5 : IVec S_ 1 := andi main_v0 main_v4
  let main_v6 : FVec F S128x9 .f32 := Host.absf main_arg4
  let main_cst_1 : FVec F S_ .f32 := constant S_ .f32 0x7F800000#32
  let main_v7 : FVec F S128x9 .f32 := broadcastInDim S128x9 ![] bcast_S_S128x9 main_cst_1
  let main_v8 : IVec S128x9 1 := cmpf .olt main_v6 main_v7
  let main_c_2 : IVec S_ 1 := constantI S_ 1 1#1
  let main_v9 : IVec S_ 1 := (fun x v => Host.reduce IntOp.andi x v reducesTo_S128x9_S_d0_1 h_S_) main_v8 main_c_2
  let main_v10 : IVec S_ 1 := andi main_v5 main_v9
  let main_v11 : FVec F S1x128x128 .f32 := (extractStridedSlice S1x128x128 ![0, 0, 0] · slices_S3x128x128_S1x128x128_0_0_0) main_arg5
  let main_v12 : FVec F S1x128x128 .f32 := Host.absf main_v11
  let main_cst_3 : FVec F S_ .f32 := constant S_ .f32 0x7F800000#32
  let main_v13 : FVec F S1x128x128 .f32 := broadcastInDim S1x128x128 ![] bcast_S_S1x128x128 main_cst_3
  let main_v14 : IVec S1x128x128 1 := cmpf .olt main_v12 main_v13
  let main_c_4 : IVec S_ 1 := constantI S_ 1 1#1
  let main_v15 : IVec S_ 1 := (fun x v => Host.reduce IntOp.andi x v reducesTo_S1x128x128_S_d0_1_2 h_S_) main_v14 main_c_4
  let main_v16 : IVec S_ 1 := andi main_v10 main_v15
  fn_part1 (F := F) main_arg6 main_arg7 main_v16
-- ==== Kernel.lean ====
abbrev S4096x128 : Shape := ⟨2, ![4096, 128]⟩
abbrev S4096 : Shape := ⟨1, ![4096]⟩
abbrev S9 : Shape := ⟨1, ![9]⟩
abbrev S128x9 : Shape := ⟨2, ![128, 9]⟩
abbrev S3x128x128 : Shape := ⟨3, ![3, 128, 128]⟩
abbrev S3x272x128 : Shape := ⟨3, ![3, 272, 128]⟩
abbrev S3x128x3 : Shape := ⟨3, ![3, 128, 3]⟩
abbrev S4096x9 : Shape := ⟨2, ![4096, 9]⟩
abbrev S1x128x128 : Shape := ⟨3, ![1, 128, 128]⟩
abbrev S128x128 : Shape := ⟨2, ![128, 128]⟩
abbrev S1x272x128 : Shape := ⟨3, ![1, 272, 128]⟩
abbrev S272x128 : Shape := ⟨2, ![272, 128]⟩
abbrev S1x128x3 : Shape := ⟨3, ![1, 128, 3]⟩
abbrev S128x3 : Shape := ⟨2, ![128, 3]⟩
abbrev S512x128 : Shape := ⟨2, ![512, 128]⟩
abbrev S512x9 : Shape := ⟨2, ![512, 9]⟩
abbrev S4096x3 : Shape := ⟨2, ![4096, 3]⟩
abbrev S3 : Shape := ⟨1, ![3]⟩
abbrev S1x3 : Shape := ⟨2, ![1, 3]⟩
abbrev S1x9 : Shape := ⟨2, ![1, 9]⟩
abbrev S512x3 : Shape := ⟨2, ![512, 3]⟩
abbrev S3x512 : Shape := ⟨2, ![3, 512]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S512x137 : Shape := ⟨2, ![512, 137]⟩
abbrev S1x16 : Shape := ⟨2, ![1, 16]⟩
abbrev S128x512 : Shape := ⟨2, ![128, 512]⟩
abbrev S128x1 : Shape := ⟨2, ![128, 1]⟩
abbrev S2048x512 : Shape := ⟨2, ![2048, 512]⟩
abbrev S2048x137 : Shape := ⟨2, ![2048, 137]⟩
abbrev S2048x128 : Shape := ⟨2, ![2048, 128]⟩
abbrev S2048x3 : Shape := ⟨2, ![2048, 3]⟩
abbrev S16x128x3 : Shape := ⟨3, ![16, 128, 3]⟩
abbrev S2048 : Shape := ⟨1, ![2048]⟩
abbrev S2048x1 : Shape := ⟨2, ![2048, 1]⟩
abbrev S2048x16 : Shape := ⟨2, ![2048, 16]⟩
abbrev S16x128x128 : Shape := ⟨3, ![16, 128, 128]⟩
abbrev S2048x272 : Shape := ⟨2, ![2048, 272]⟩
abbrev S2048x9 : Shape := ⟨2, ![2048, 9]⟩
abbrev S16x128x9 : Shape := ⟨3, ![16, 128, 9]⟩
abbrev S1x128x9 : Shape := ⟨3, ![1, 128, 9]⟩
abbrev S8x512x9 : Shape := ⟨3, ![8, 512, 9]⟩

abbrev nBuf : Space → Nat
  | .hbm => 35
  | .vmem => 41
  | .smem => 0
  | _ => 0

abbrev bufTy : (tb : Table) → Fin (tcTables nBuf tb) → BufTy
  | .hbm, ⟨0, _⟩ => ⟨S4096x128, .f32⟩
  | .hbm, ⟨1, _⟩ => ⟨S4096, .i1⟩
  | .hbm, ⟨2, _⟩ => ⟨S4096, .i32⟩
  | .hbm, ⟨3, _⟩ => ⟨S9, .i32⟩
  | .hbm, ⟨4, _⟩ => ⟨S128x9, .f32⟩
  | .hbm, ⟨5, _⟩ => ⟨S3x128x128, .f32⟩
  | .hbm, ⟨6, _⟩ => ⟨S3x272x128, .f32⟩
  | .hbm, ⟨7, _⟩ => ⟨S3x128x3, .f32⟩
  | .hbm, ⟨8, _⟩ => ⟨S4096x9, .f32⟩
  | .hbm, ⟨9, _⟩ => ⟨S1x128x128, .f32⟩
  | .hbm, ⟨10, _⟩ => ⟨S128x128, .f32⟩
  | .hbm, ⟨11, _⟩ => ⟨S1x272x128, .f32⟩
  | .hbm, ⟨12, _⟩ => ⟨S272x128, .f32⟩
  | .hbm, ⟨13, _⟩ => ⟨S1x128x3, .f32⟩
  | .hbm, ⟨14, _⟩ => ⟨S128x3, .f32⟩
  | .hbm, ⟨15, _⟩ => ⟨S4096x128, .f32⟩
  | .hbm, ⟨16, _⟩ => ⟨S4096x9, .f32⟩
  | .hbm, ⟨17, _⟩ => ⟨S1x128x128, .f32⟩
  | .hbm, ⟨18, _⟩ => ⟨S128x128, .f32⟩
  | .hbm, ⟨19, _⟩ => ⟨S1x272x128, .f32⟩
  | .hbm, ⟨20, _⟩ => ⟨S272x128, .f32⟩
  | .hbm, ⟨21, _⟩ => ⟨S1x128x3, .f32⟩
  | .hbm, ⟨22, _⟩ => ⟨S128x3, .f32⟩
  | .hbm, ⟨23, _⟩ => ⟨S4096x128, .f32⟩
  | .hbm, ⟨24, _⟩ => ⟨S4096x9, .f32⟩
  | .hbm, ⟨25, _⟩ => ⟨S1x128x128, .f32⟩
  | .hbm, ⟨26, _⟩ => ⟨S128x128, .f32⟩
  | .hbm, ⟨27, _⟩ => ⟨S1x272x128, .f32⟩
  | .hbm, ⟨28, _⟩ => ⟨S272x128, .f32⟩
  | .hbm, ⟨29, _⟩ => ⟨S1x128x3, .f32⟩
  | .hbm, ⟨30, _⟩ => ⟨S128x3, .f32⟩
  | .hbm, ⟨31, _⟩ => ⟨S4096x128, .f32⟩
  | .hbm, ⟨32, _⟩ => ⟨S4096x9, .f32⟩
  | .hbm, ⟨33, _⟩ => ⟨S4096x9, .f32⟩
  | .hbm, ⟨34, _⟩ => ⟨S8x512x9, .f32⟩
  | .local _ .vmem, ⟨0, _⟩ => ⟨S4096x128, .f32⟩
  | .local _ .vmem, ⟨1, _⟩ => ⟨S128x9, .f32⟩
  | .local _ .vmem, ⟨2, _⟩ => ⟨S4096x9, .f32⟩
  | .local _ .vmem, ⟨3, _⟩ => ⟨S512x128, .f32⟩
  | .local _ .vmem, ⟨4, _⟩ => ⟨S512x128, .f32⟩
  | .local _ .vmem, ⟨5, _⟩ => ⟨S512x9, .f32⟩
  | .local _ .vmem, ⟨6, _⟩ => ⟨S512x9, .f32⟩
  | .local _ .vmem, ⟨7, _⟩ => ⟨S4096x9, .f32⟩
  | .local _ .vmem, ⟨8, _⟩ => ⟨S128x128, .f32⟩
  | .local _ .vmem, ⟨9, _⟩ => ⟨S272x128, .f32⟩
  | .local _ .vmem, ⟨10, _⟩ => ⟨S128x3, .f32⟩
  | .local _ .vmem, ⟨11, _⟩ => ⟨S512x128, .f32⟩
  | .local _ .vmem, ⟨12, _⟩ => ⟨S512x128, .f32⟩
  | .local _ .vmem, ⟨13, _⟩ => ⟨S512x9, .f32⟩
  | .local _ .vmem, ⟨14, _⟩ => ⟨S512x9, .f32⟩
  | .local _ .vmem, ⟨15, _⟩ => ⟨S512x128, .f32⟩
  | .local _ .vmem, ⟨16, _⟩ => ⟨S512x128, .f32⟩
  | .local _ .vmem, ⟨17, _⟩ => ⟨S512x9, .f32⟩
  | .local _ .vmem, ⟨18, _⟩ => ⟨S512x9, .f32⟩
  | .local _ .vmem, ⟨19, _⟩ => ⟨S4096x9, .f32⟩
  | .local _ .vmem, ⟨20, _⟩ => ⟨S128x128, .f32⟩
  | .local _ .vmem, ⟨21, _⟩ => ⟨S272x128, .f32⟩
  | .local _ .vmem, ⟨22, _⟩ => ⟨S128x3, .f32⟩
  | .local _ .vmem, ⟨23, _⟩ => ⟨S512x128, .f32⟩
  | .local _ .vmem, ⟨24, _⟩ => ⟨S512x128, .f32⟩
  | .local _ .vmem, ⟨25, _⟩ => ⟨S512x9, .f32⟩
  | .local _ .vmem, ⟨26, _⟩ => ⟨S512x9, .f32⟩
  | .local _ .vmem, ⟨27, _⟩ => ⟨S512x128, .f32⟩
  | .local _ .vmem, ⟨28, _⟩ => ⟨S512x128, .f32⟩
  | .local _ .vmem, ⟨29, _⟩ => ⟨S512x9, .f32⟩
  | .local _ .vmem, ⟨30, _⟩ => ⟨S512x9, .f32⟩
  | .local _ .vmem, ⟨31, _⟩ => ⟨S4096x9, .f32⟩
  | .local _ .vmem, ⟨32, _⟩ => ⟨S128x128, .f32⟩
  | .local _ .vmem, ⟨33, _⟩ => ⟨S272x128, .f32⟩
  | .local _ .vmem, ⟨34, _⟩ => ⟨S128x3, .f32⟩
  | .local _ .vmem, ⟨35, _⟩ => ⟨S512x128, .f32⟩
  | .local _ .vmem, ⟨36, _⟩ => ⟨S512x128, .f32⟩
  | .local _ .vmem, ⟨37, _⟩ => ⟨S512x9, .f32⟩
  | .local _ .vmem, ⟨38, _⟩ => ⟨S512x9, .f32⟩
  | .local _ .vmem, ⟨39, _⟩ => ⟨S4096x9, .f32⟩
  | .local _ .vmem, ⟨40, _⟩ => ⟨S4096x9, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg1_0 : Ref sig .tc := ⟨.vmem, 40, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem6_1 : DmaSem sig := 36
abbrev cc3_sem7_0 : DmaSem sig := 37
abbrev cc3_sem7_1 : DmaSem sig := 38
abbrev cc4_sem0_0 : DmaSem sig := 39
abbrev cc4_sem1_0 : DmaSem sig := 40

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x9 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S272x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x9 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x9 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x9 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S272x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x9 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x9 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x9 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S272x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x3 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x9 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := .none

abbrev stage4_0 : Fin 1 → Memref sig .tc .vmem S4096x9 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4096x9 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
-- ==== KernelIdeal.lean ====
variable {F : FTy → Type} [FloatOps F] [Named F]
def κ : String → Option EReal := fun
  | "far" => some ⊤
  | "rbf_step" => some ((4 / 3 : ℝ) : EReal)
  | _ => none
-- ==== ReferenceIdeal.lean ====
abbrev S4096x128 : Shape := ⟨2, ![4096, 128]⟩
abbrev S4096 : Shape := ⟨1, ![4096]⟩
abbrev S9 : Shape := ⟨1, ![9]⟩
abbrev S128x9 : Shape := ⟨2, ![128, 9]⟩
abbrev S3x128x128 : Shape := ⟨3, ![3, 128, 128]⟩
abbrev S3x272x128 : Shape := ⟨3, ![3, 272, 128]⟩
abbrev S3x128x3 : Shape := ⟨3, ![3, 128, 3]⟩
abbrev S4096x1 : Shape := ⟨2, ![4096, 1]⟩
abbrev S_ : Shape := ⟨0, ![]⟩
abbrev S4096x9 : Shape := ⟨2, ![4096, 9]⟩
abbrev S4096x3x3 : Shape := ⟨3, ![4096, 3, 3]⟩
abbrev S4096x1x3 : Shape := ⟨3, ![4096, 1, 3]⟩
abbrev S1x3 : Shape := ⟨2, ![1, 3]⟩
abbrev S1x1x3 : Shape := ⟨3, ![1, 1, 3]⟩
abbrev S1x128x128 : Shape := ⟨3, ![1, 128, 128]⟩
abbrev S128x128 : Shape := ⟨2, ![128, 128]⟩
abbrev S1x272x128 : Shape := ⟨3, ![1, 272, 128]⟩
abbrev S272x128 : Shape := ⟨2, ![272, 128]⟩
abbrev S1x128x3 : Shape := ⟨3, ![1, 128, 3]⟩
abbrev S128x3 : Shape := ⟨2, ![128, 3]⟩
abbrev S4096x3 : Shape := ⟨2, ![4096, 3]⟩
abbrev S8x512x3 : Shape := ⟨3, ![8, 512, 3]⟩
abbrev S8x512x1x3 : Shape := ⟨4, ![8, 512, 1, 3]⟩
abbrev S8x1x512x3 : Shape := ⟨4, ![8, 1, 512, 3]⟩
abbrev S8x512x512x3 : Shape := ⟨4, ![8, 512, 512, 3]⟩
abbrev S8x512x512 : Shape := ⟨3, ![8, 512, 512]⟩
abbrev S512x512 : Shape := ⟨2, ![512, 512]⟩
abbrev S1x512x512 : Shape := ⟨3, ![1, 512, 512]⟩
abbrev S8x512x16 : Shape := ⟨3, ![8, 512, 16]⟩
abbrev S8 : Shape := ⟨1, ![8]⟩
abbrev S8x1x1 : Shape := ⟨3, ![8, 1, 1]⟩
abbrev S65536 : Shape := ⟨1, ![65536]⟩
abbrev S4096x16 : Shape := ⟨2, ![4096, 16]⟩
abbrev S65536x1 : Shape := ⟨2, ![65536, 1]⟩
abbrev S65536x3 : Shape := ⟨2, ![65536, 3]⟩
abbrev S65536x128 : Shape := ⟨2, ![65536, 128]⟩
abbrev S15 : Shape := ⟨1, ![15]⟩
abbrev S1 : Shape := ⟨1, ![1]⟩
abbrev S16 : Shape := ⟨1, ![16]⟩
abbrev S1x16 : Shape := ⟨2, ![1, 16]⟩
abbrev S65536x16 : Shape := ⟨2, ![65536, 16]⟩
abbrev S65536x272 : Shape := ⟨2, ![65536, 272]⟩
abbrev S65536x1x3 : Shape := ⟨3, ![65536, 1, 3]⟩
abbrev S65536x3x1 : Shape := ⟨3, ![65536, 3, 1]⟩
abbrev S65536x3x3 : Shape := ⟨3, ![65536, 3, 3]⟩
abbrev S8x512x9 : Shape := ⟨3, ![8, 512, 9]⟩

abbrev nBuf : Space → Nat
  | .hbm => 516
  | .vmem => 0
  | .smem => 0
  | _ => 0

abbrev hbmTy0_0 (i : Nat) : BufTy := match i % 128 with
  | 0 => ⟨S4096x128, .f32⟩
  | 1 => ⟨S4096, .i1⟩
  | 2 => ⟨S4096, .i32⟩
  | 3 => ⟨S9, .i32⟩
  | 4 => ⟨S128x9, .f32⟩
  | 5 => ⟨S3x128x128, .f32⟩
  | 6 => ⟨S3x272x128, .f32⟩
  | 7 => ⟨S3x128x3, .f32⟩
  | 8 => ⟨S4096x1, .i1⟩
  | 9 => ⟨S_, .f32⟩
  | 10 => ⟨S_, .f32⟩
  | 11 => ⟨S4096x128, .i1⟩
  | 12 => ⟨S4096x128, .f32⟩
  | 13 => ⟨S4096x128, .f32⟩
  | 14 => ⟨S4096x9, .f32⟩
  | 15 => ⟨S4096x3x3, .f32⟩
  | 16 => ⟨S4096x1x3, .f32⟩
  | 17 => ⟨S_, .f32⟩
  | 18 => ⟨S1x3, .f32⟩
  | 19 => ⟨S1x1x3, .f32⟩
  | 20 => ⟨S_, .f32⟩
  | 21 => ⟨S1x1x3, .f32⟩
  | 22 => ⟨S1x1x3, .f32⟩
  | 23 => ⟨S4096x3x3, .f32⟩
  | 24 => ⟨S4096x3x3, .f32⟩
  | 25 => ⟨S1x128x128, .f32⟩
  | 26 => ⟨S128x128, .f32⟩
  | 27 => ⟨S1x272x128, .f32⟩
  | 28 => ⟨S272x128, .f32⟩
  | 29 => ⟨S1x128x3, .f32⟩
  | 30 => ⟨S128x3, .f32⟩
  | 31 => ⟨S4096x1x3, .f32⟩
  | 32 => ⟨S4096x3, .f32⟩
  | 33 => ⟨S8x512x3, .f32⟩
  | 34 => ⟨S8x512x1x3, .f32⟩
  | 35 => ⟨S8x1x512x3, .f32⟩
  | 36 => ⟨S8x512x512x3, .f32⟩
  | 37 => ⟨S8x512x512x3, .f32⟩
  | 38 => ⟨S8x512x512x3, .f32⟩
  | 39 => ⟨S8x512x512x3, .f32⟩
  | 40 => ⟨S_, .f32⟩
  | 41 => ⟨S8x512x512, .f32⟩
  | 42 => ⟨S512x512, .i32⟩
  | 43 => ⟨S512x512, .i32⟩
  | 44 => ⟨S_, .i32⟩
  | 45 => ⟨S512x512, .i32⟩
  | 46 => ⟨S512x512, .i32⟩
  | 47 => ⟨S512x512, .i1⟩
  | 48 => ⟨S1x512x512, .i1⟩
  | 49 => ⟨S_, .f32⟩
  | 50 => ⟨S_, .f32⟩
  | 51 => ⟨S8x512x512, .i1⟩
  | 52 => ⟨S8x512x512, .f32⟩
  | 53 => ⟨S8x512x512, .f32⟩
  | 54 => ⟨S8x512x512, .f32⟩
  | 55 => ⟨S8x512x16, .f32⟩
  | 56 => ⟨S8x512x16, .i32⟩
  | 57 => ⟨S8, .i32⟩
  | 58 => ⟨S_, .i32⟩
  | 59 => ⟨S8, .i32⟩
  | 60 => ⟨S8, .i32⟩
  | 61 => ⟨S8x1x1, .i32⟩
  | 62 => ⟨S8x512x16, .i32⟩
  | 63 => ⟨S8x512x16, .i32⟩
  | 64 => ⟨S65536, .i32⟩
  | 65 => ⟨S4096, .i32⟩
  | 66 => ⟨S4096x16, .i32⟩
  | 67 => ⟨S65536, .i32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S65536x3, .f32⟩
  | 77 => ⟨S_, .i32⟩
  | 78 => ⟨S65536, .i32⟩
  | 79 => ⟨S65536, .i1⟩
  | 80 => ⟨S_, .i32⟩
  | 81 => ⟨S65536, .i32⟩
  | 82 => ⟨S65536, .i32⟩
  | 83 => ⟨S65536, .i32⟩
  | 84 => ⟨S65536x1, .i32⟩
  | 85 => ⟨S65536x3, .f32⟩
  | 86 => ⟨S65536x3, .f32⟩
  | 87 => ⟨S65536x3, .f32⟩
  | 88 => ⟨S_, .f32⟩
  | 89 => ⟨S65536, .f32⟩
  | 90 => ⟨S65536, .f32⟩
  | 91 => ⟨S65536x3, .f32⟩
  | 92 => ⟨S_, .f32⟩
  | 93 => ⟨S65536, .f32⟩
  | 94 => ⟨S65536x1, .f32⟩
  | 95 => ⟨S65536x1, .f32⟩
  | 96 => ⟨S_, .f32⟩
  | 97 => ⟨S65536x1, .f32⟩
  | 98 => ⟨S65536x1, .f32⟩
  | 99 => ⟨S65536x3, .f32⟩
  | 100 => ⟨S65536x3, .f32⟩
  | 101 => ⟨S_, .i32⟩
  | 102 => ⟨S65536, .i32⟩
  | 103 => ⟨S65536, .i1⟩
  | 104 => ⟨S_, .i32⟩
  | 105 => ⟨S65536, .i32⟩
  | 106 => ⟨S65536, .i32⟩
  | 107 => ⟨S65536, .i32⟩
  | 108 => ⟨S65536x1, .i32⟩
  | 109 => ⟨S65536x128, .f32⟩
  | 110 => ⟨S_, .i32⟩
  | 111 => ⟨S65536, .i32⟩
  | 112 => ⟨S65536, .i1⟩
  | 113 => ⟨S_, .i32⟩
  | 114 => ⟨S65536, .i32⟩
  | 115 => ⟨S65536, .i32⟩
  | 116 => ⟨S65536, .i32⟩
  | 117 => ⟨S65536x1, .i32⟩
  | 118 => ⟨S65536x128, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S15, .f32⟩
  | 127 => ⟨S_, .f32⟩
  | _ => ⟨S4096x128, .f32⟩

abbrev hbmTy0_1 (i : Nat) : BufTy := match i % 128 with
  | 0 => ⟨S15, .f32⟩
  | 1 => ⟨S15, .f32⟩
  | 2 => ⟨S1, .f32⟩
  | 3 => ⟨S_, .f32⟩
  | 4 => ⟨S15, .f32⟩
  | 5 => ⟨S15, .f32⟩
  | 6 => ⟨S15, .f32⟩
  | 7 => ⟨S15, .f32⟩
  | 8 => ⟨S1, .f32⟩
  | 9 => ⟨S15, .f32⟩
  | 10 => ⟨S15, .f32⟩
  | 11 => ⟨S15, .f32⟩
  | 12 => ⟨S1, .f32⟩
  | 13 => ⟨S16, .f32⟩
  | 14 => ⟨S65536x1, .f32⟩
  | 15 => ⟨S1x16, .f32⟩
  | 16 => ⟨S65536x16, .f32⟩
  | 17 => ⟨S65536x16, .f32⟩
  | 18 => ⟨S65536x16, .f32⟩
  | 19 => ⟨S_, .f32⟩
  | 20 => ⟨S65536x16, .f32⟩
  | 21 => ⟨S65536x16, .f32⟩
  | 22 => ⟨S65536x16, .f32⟩
  | 23 => ⟨S65536x16, .f32⟩
  | 24 => ⟨S65536x16, .f32⟩
  | 25 => ⟨S65536x272, .f32⟩
  | 26 => ⟨S65536x128, .f32⟩
  | 27 => ⟨S_, .f32⟩
  | 28 => ⟨S65536x128, .f32⟩
  | 29 => ⟨S65536x128, .f32⟩
  | 30 => ⟨S_, .f32⟩
  | 31 => ⟨S4096x128, .f32⟩
  | 32 => ⟨S65536x1, .i32⟩
  | 33 => ⟨S4096x128, .f32⟩
  | 34 => ⟨S4096x128, .f32⟩
  | 35 => ⟨S4096x128, .f32⟩
  | 36 => ⟨S_, .f32⟩
  | 37 => ⟨S4096x128, .f32⟩
  | 38 => ⟨S4096x128, .f32⟩
  | 39 => ⟨S65536x3, .f32⟩
  | 40 => ⟨S65536x1x3, .f32⟩
  | 41 => ⟨S65536x3x1, .f32⟩
  | 42 => ⟨S65536x3x3, .f32⟩
  | 43 => ⟨S65536x3x3, .f32⟩
  | 44 => ⟨S65536x3x3, .f32⟩
  | 45 => ⟨S_, .f32⟩
  | 46 => ⟨S4096x3x3, .f32⟩
  | 47 => ⟨S65536x1, .i32⟩
  | 48 => ⟨S4096x3x3, .f32⟩
  | 49 => ⟨S4096x3x3, .f32⟩
  | 50 => ⟨S4096x1x3, .f32⟩
  | 51 => ⟨S_, .f32⟩
  | 52 => ⟨S1x3, .f32⟩
  | 53 => ⟨S1x1x3, .f32⟩
  | 54 => ⟨S_, .f32⟩
  | 55 => ⟨S1x1x3, .f32⟩
  | 56 => ⟨S1x1x3, .f32⟩
  | 57 => ⟨S4096x3x3, .f32⟩
  | 58 => ⟨S4096x3x3, .f32⟩
  | 59 => ⟨S1x128x128, .f32⟩
  | 60 => ⟨S128x128, .f32⟩
  | 61 => ⟨S1x272x128, .f32⟩
  | 62 => ⟨S272x128, .f32⟩
  | 63 => ⟨S1x128x3, .f32⟩
  | 64 => ⟨S128x3, .f32⟩
  | 65 => ⟨S4096x1x3, .f32⟩
  | 66 => ⟨S4096x3, .f32⟩
  | 67 => ⟨S8x512x3, .f32⟩
  | 68 => ⟨S8x512x1x3, .f32⟩
  | 69 => ⟨S8x1x512x3, .f32⟩
  | 70 => ⟨S8x512x512x3, .f32⟩
  | 71 => ⟨S8x512x512x3, .f32⟩
  | 72 => ⟨S8x512x512x3, .f32⟩
  | 73 => ⟨S8x512x512x3, .f32⟩
  | 74 => ⟨S_, .f32⟩
  | 75 => ⟨S8x512x512, .f32⟩
  | 76 => ⟨S512x512, .i32⟩
  | 77 => ⟨S512x512, .i32⟩
  | 78 => ⟨S_, .i32⟩
  | 79 => ⟨S512x512, .i32⟩
  | 80 => ⟨S512x512, .i32⟩
  | 81 => ⟨S512x512, .i1⟩
  | 82 => ⟨S1x512x512, .i1⟩
  | 83 => ⟨S_, .f32⟩
  | 84 => ⟨S_, .f32⟩
  | 85 => ⟨S8x512x512, .i1⟩
  | 86 => ⟨S8x512x512, .f32⟩
  | 87 => ⟨S8x512x512, .f32⟩
  | 88 => ⟨S8x512x512, .f32⟩
  | 89 => ⟨S8x512x16, .f32⟩
  | 90 => ⟨S8x512x16, .i32⟩
  | 91 => ⟨S8, .i32⟩
  | 92 => ⟨S_, .i32⟩
  | 93 => ⟨S8, .i32⟩
  | 94 => ⟨S8, .i32⟩
  | 95 => ⟨S8x1x1, .i32⟩
  | 96 => ⟨S8x512x16, .i32⟩
  | 97 => ⟨S8x512x16, .i32⟩
  | 98 => ⟨S65536, .i32⟩
  | 99 => ⟨S4096, .i32⟩
  | 100 => ⟨S4096x16, .i32⟩
  | 101 => ⟨S65536, .i32⟩
  | 102 => ⟨S_, .i32⟩
  | 103 => ⟨S65536, .i32⟩
  | 104 => ⟨S65536, .i1⟩
  | 105 => ⟨S_, .i32⟩
  | 106 => ⟨S65536, .i32⟩
  | 107 => ⟨S65536, .i32⟩
  | 108 => ⟨S65536, .i32⟩
  | 109 => ⟨S65536x1, .i32⟩
  | 110 => ⟨S65536x3, .f32⟩
  | 111 => ⟨S_, .i32⟩
  | 112 => ⟨S65536, .i32⟩
  | 113 => ⟨S65536, .i1⟩
  | 114 => ⟨S_, .i32⟩
  | 115 => ⟨S65536, .i32⟩
  | 116 => ⟨S65536, .i32⟩
  | 117 => ⟨S65536, .i32⟩
  | 118 => ⟨S65536x1, .i32⟩
  | 119 => ⟨S65536x3, .f32⟩
  | 120 => ⟨S65536x3, .f32⟩
  | 121 => ⟨S65536x3, .f32⟩
  | 122 => ⟨S_, .f32⟩
  | 123 => ⟨S65536, .f32⟩
  | 124 => ⟨S65536, .f32⟩
  | 125 => ⟨S65536x3, .f32⟩
  | 126 => ⟨S_, .f32⟩
  | 127 => ⟨S65536, .f32⟩
  | _ => ⟨S4096x128, .f32⟩

abbrev hbmTy0_2 (i : Nat) : BufTy := match i % 128 with
  | 0 => ⟨S65536x1, .f32⟩
  | 1 => ⟨S65536x1, .f32⟩
  | 2 => ⟨S_, .f32⟩
  | 3 => ⟨S65536x1, .f32⟩
  | 4 => ⟨S65536x1, .f32⟩
  | 5 => ⟨S65536x3, .f32⟩
  | 6 => ⟨S65536x3, .f32⟩
  | 7 => ⟨S_, .i32⟩
  | 8 => ⟨S65536, .i32⟩
  | 9 => ⟨S65536, .i1⟩
  | 10 => ⟨S_, .i32⟩
  | 11 => ⟨S65536, .i32⟩
  | 12 => ⟨S65536, .i32⟩
  | 13 => ⟨S65536, .i32⟩
  | 14 => ⟨S65536x1, .i32⟩
  | 15 => ⟨S65536x128, .f32⟩
  | 16 => ⟨S_, .i32⟩
  | 17 => ⟨S65536, .i32⟩
  | 18 => ⟨S65536, .i1⟩
  | 19 => ⟨S_, .i32⟩
  | 20 => ⟨S65536, .i32⟩
  | 21 => ⟨S65536, .i32⟩
  | 22 => ⟨S65536, .i32⟩
  | 23 => ⟨S65536x1, .i32⟩
  | 24 => ⟨S65536x128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S15, .f32⟩
  | 33 => ⟨S_, .f32⟩
  | 34 => ⟨S15, .f32⟩
  | 35 => ⟨S15, .f32⟩
  | 36 => ⟨S1, .f32⟩
  | 37 => ⟨S_, .f32⟩
  | 38 => ⟨S15, .f32⟩
  | 39 => ⟨S15, .f32⟩
  | 40 => ⟨S15, .f32⟩
  | 41 => ⟨S15, .f32⟩
  | 42 => ⟨S1, .f32⟩
  | 43 => ⟨S15, .f32⟩
  | 44 => ⟨S15, .f32⟩
  | 45 => ⟨S15, .f32⟩
  | 46 => ⟨S1, .f32⟩
  | 47 => ⟨S16, .f32⟩
  | 48 => ⟨S65536x1, .f32⟩
  | 49 => ⟨S1x16, .f32⟩
  | 50 => ⟨S65536x16, .f32⟩
  | 51 => ⟨S65536x16, .f32⟩
  | 52 => ⟨S65536x16, .f32⟩
  | 53 => ⟨S_, .f32⟩
  | 54 => ⟨S65536x16, .f32⟩
  | 55 => ⟨S65536x16, .f32⟩
  | 56 => ⟨S65536x16, .f32⟩
  | 57 => ⟨S65536x16, .f32⟩
  | 58 => ⟨S65536x16, .f32⟩
  | 59 => ⟨S65536x272, .f32⟩
  | 60 => ⟨S65536x128, .f32⟩
  | 61 => ⟨S_, .f32⟩
  | 62 => ⟨S65536x128, .f32⟩
  | 63 => ⟨S65536x128, .f32⟩
  | 64 => ⟨S_, .f32⟩
  | 65 => ⟨S4096x128, .f32⟩
  | 66 => ⟨S65536x1, .i32⟩
  | 67 => ⟨S4096x128, .f32⟩
  | 68 => ⟨S4096x128, .f32⟩
  | 69 => ⟨S4096x128, .f32⟩
  | 70 => ⟨S_, .f32⟩
  | 71 => ⟨S4096x128, .f32⟩
  | 72 => ⟨S4096x128, .f32⟩
  | 73 => ⟨S65536x3, .f32⟩
  | 74 => ⟨S65536x1x3, .f32⟩
  | 75 => ⟨S65536x3x1, .f32⟩
  | 76 => ⟨S65536x3x3, .f32⟩
  | 77 => ⟨S65536x3x3, .f32⟩
  | 78 => ⟨S65536x3x3, .f32⟩
  | 79 => ⟨S_, .f32⟩
  | 80 => ⟨S4096x3x3, .f32⟩
  | 81 => ⟨S65536x1, .i32⟩
  | 82 => ⟨S4096x3x3, .f32⟩
  | 83 => ⟨S4096x3x3, .f32⟩
  | 84 => ⟨S4096x1x3, .f32⟩
  | 85 => ⟨S_, .f32⟩
  | 86 => ⟨S1x3, .f32⟩
  | 87 => ⟨S1x1x3, .f32⟩
  | 88 => ⟨S_, .f32⟩
  | 89 => ⟨S1x1x3, .f32⟩
  | 90 => ⟨S1x1x3, .f32⟩
  | 91 => ⟨S4096x3x3, .f32⟩
  | 92 => ⟨S4096x3x3, .f32⟩
  | 93 => ⟨S1x128x128, .f32⟩
  | 94 => ⟨S128x128, .f32⟩
  | 95 => ⟨S1x272x128, .f32⟩
  | 96 => ⟨S272x128, .f32⟩
  | 97 => ⟨S1x128x3, .f32⟩
  | 98 => ⟨S128x3, .f32⟩
  | 99 => ⟨S4096x1x3, .f32⟩
  | 100 => ⟨S4096x3, .f32⟩
  | 101 => ⟨S8x512x3, .f32⟩
  | 102 => ⟨S8x512x1x3, .f32⟩
  | 103 => ⟨S8x1x512x3, .f32⟩
  | 104 => ⟨S8x512x512x3, .f32⟩
  | 105 => ⟨S8x512x512x3, .f32⟩
  | 106 => ⟨S8x512x512x3, .f32⟩
  | 107 => ⟨S8x512x512x3, .f32⟩
  | 108 => ⟨S_, .f32⟩
  | 109 => ⟨S8x512x512, .f32⟩
  | 110 => ⟨S512x512, .i32⟩
  | 111 => ⟨S512x512, .i32⟩
  | 112 => ⟨S_, .i32⟩
  | 113 => ⟨S512x512, .i32⟩
  | 114 => ⟨S512x512, .i32⟩
  | 115 => ⟨S512x512, .i1⟩
  | 116 => ⟨S1x512x512, .i1⟩
  | 117 => ⟨S_, .f32⟩
  | 118 => ⟨S_, .f32⟩
  | 119 => ⟨S8x512x512, .i1⟩
  | 120 => ⟨S8x512x512, .f32⟩
  | 121 => ⟨S8x512x512, .f32⟩
  | 122 => ⟨S8x512x512, .f32⟩
  | 123 => ⟨S8x512x16, .f32⟩
  | 124 => ⟨S8x512x16, .i32⟩
  | 125 => ⟨S8, .i32⟩
  | 126 => ⟨S_, .i32⟩
  | 127 => ⟨S8, .i32⟩
  | _ => ⟨S4096x128, .f32⟩

abbrev hbmTy0_3 (i : Nat) : BufTy := match i % 128 with
  | 0 => ⟨S8, .i32⟩
  | 1 => ⟨S8x1x1, .i32⟩
  | 2 => ⟨S8x512x16, .i32⟩
  | 3 => ⟨S8x512x16, .i32⟩
  | 4 => ⟨S65536, .i32⟩
  | 5 => ⟨S4096, .i32⟩
  | 6 => ⟨S4096x16, .i32⟩
  | 7 => ⟨S65536, .i32⟩
  | 8 => ⟨S_, .i32⟩
  | 9 => ⟨S65536, .i32⟩
  | 10 => ⟨S65536, .i1⟩
  | 11 => ⟨S_, .i32⟩
  | 12 => ⟨S65536, .i32⟩
  | 13 => ⟨S65536, .i32⟩
  | 14 => ⟨S65536, .i32⟩
  | 15 => ⟨S65536x1, .i32⟩
  | 16 => ⟨S65536x3, .f32⟩
  | 17 => ⟨S_, .i32⟩
  | 18 => ⟨S65536, .i32⟩
  | 19 => ⟨S65536, .i1⟩
  | 20 => ⟨S_, .i32⟩
  | 21 => ⟨S65536, .i32⟩
  | 22 => ⟨S65536, .i32⟩
  | 23 => ⟨S65536, .i32⟩
  | 24 => ⟨S65536x1, .i32⟩
  | 25 => ⟨S65536x3, .f32⟩
  | 26 => ⟨S65536x3, .f32⟩
  | 27 => ⟨S65536x3, .f32⟩
  | 28 => ⟨S_, .f32⟩
  | 29 => ⟨S65536, .f32⟩
  | 30 => ⟨S65536, .f32⟩
  | 31 => ⟨S65536x3, .f32⟩
  | 32 => ⟨S_, .f32⟩
  | 33 => ⟨S65536, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S65536x3, .f32⟩
  | 40 => ⟨S65536x3, .f32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S65536x128, .f32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S65536x128, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S15, .f32⟩
  | 67 => ⟨S_, .f32⟩
  | 68 => ⟨S15, .f32⟩
  | 69 => ⟨S15, .f32⟩
  | 70 => ⟨S1, .f32⟩
  | 71 => ⟨S_, .f32⟩
  | 72 => ⟨S15, .f32⟩
  | 73 => ⟨S15, .f32⟩
  | 74 => ⟨S15, .f32⟩
  | 75 => ⟨S15, .f32⟩
  | 76 => ⟨S1, .f32⟩
  | 77 => ⟨S15, .f32⟩
  | 78 => ⟨S15, .f32⟩
  | 79 => ⟨S15, .f32⟩
  | 80 => ⟨S1, .f32⟩
  | 81 => ⟨S16, .f32⟩
  | 82 => ⟨S65536x1, .f32⟩
  | 83 => ⟨S1x16, .f32⟩
  | 84 => ⟨S65536x16, .f32⟩
  | 85 => ⟨S65536x16, .f32⟩
  | 86 => ⟨S65536x16, .f32⟩
  | 87 => ⟨S_, .f32⟩
  | 88 => ⟨S65536x16, .f32⟩
  | 89 => ⟨S65536x16, .f32⟩
  | 90 => ⟨S65536x16, .f32⟩
  | 91 => ⟨S65536x16, .f32⟩
  | 92 => ⟨S65536x16, .f32⟩
  | 93 => ⟨S65536x272, .f32⟩
  | 94 => ⟨S65536x128, .f32⟩
  | 95 => ⟨S_, .f32⟩
  | 96 => ⟨S65536x128, .f32⟩
  | 97 => ⟨S65536x128, .f32⟩
  | 98 => ⟨S_, .f32⟩
  | 99 => ⟨S4096x128, .f32⟩
  | 100 => ⟨S65536x1, .i32⟩
  | 101 => ⟨S4096x128, .f32⟩
  | 102 => ⟨S4096x128, .f32⟩
  | 103 => ⟨S4096x128, .f32⟩
  | 104 => ⟨S_, .f32⟩
  | 105 => ⟨S4096x128, .f32⟩
  | 106 => ⟨S4096x128, .f32⟩
  | 107 => ⟨S65536x3, .f32⟩
  | 108 => ⟨S65536x1x3, .f32⟩
  | 109 => ⟨S65536x3x1, .f32⟩
  | 110 => ⟨S65536x3x3, .f32⟩
  | 111 => ⟨S65536x3x3, .f32⟩
  | 112 => ⟨S65536x3x3, .f32⟩
  | 113 => ⟨S_, .f32⟩
  | 114 => ⟨S4096x3x3, .f32⟩
  | 115 => ⟨S65536x1, .i32⟩
  | 116 => ⟨S4096x3x3, .f32⟩
  | 117 => ⟨S4096x3x3, .f32⟩
  | 118 => ⟨S4096x1x3, .f32⟩
  | 119 => ⟨S_, .f32⟩
  | 120 => ⟨S1x3, .f32⟩
  | 121 => ⟨S1x1x3, .f32⟩
  | 122 => ⟨S_, .f32⟩
  | 123 => ⟨S1x1x3, .f32⟩
  | 124 => ⟨S1x1x3, .f32⟩
  | 125 => ⟨S4096x3x3, .f32⟩
  | 126 => ⟨S4096x3x3, .f32⟩
  | 127 => ⟨S4096x9, .f32⟩
  | _ => ⟨S4096x128, .f32⟩

abbrev hbmTy0_4 (i : Nat) : BufTy := match i % 128 with
  | 0 => ⟨S_, .f32⟩
  | 1 => ⟨S4096x9, .f32⟩
  | 2 => ⟨S4096x9, .f32⟩
  | 3 => ⟨S8x512x9, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_v34 : Ref sig .tc := ⟨.hbm, 54, rfl⟩
abbrev main_values : Ref sig .tc := ⟨.hbm, 55, rfl⟩
abbrev main_indices : Ref sig .tc := ⟨.hbm, 56, rfl⟩
abbrev main_v35 : Ref sig .tc := ⟨.hbm, 57, rfl⟩
abbrev main_c_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_5 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_7 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_v60 : Ref sig .tc := ⟨.hbm, 90, rfl⟩
abbrev main_call3_v0 : Ref sig .tc := ⟨.hbm, 91, rfl⟩
abbrev main_call3_cst : Ref sig .tc := ⟨.hbm, 92, rfl⟩
abbrev main_call3_v1 : Ref sig .tc := ⟨.hbm, 93, rfl⟩
abbrev main_call3_v2 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_10 : Ref sig .tc := ⟨.hbm, 101, rfl⟩
abbrev main_v66 : Ref sig .tc := ⟨.hbm, 102, rfl⟩
abbrev main_v67 : Ref sig .tc := ⟨.hbm, 103, rfl⟩
abbrev main_c_11 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_12 : Ref sig .tc := ⟨.hbm, 110, rfl⟩
abbrev main_v73 : Ref sig .tc := ⟨.hbm, 111, rfl⟩
abbrev main_v74 : Ref sig .tc := ⟨.hbm, 112, rfl⟩
abbrev main_c_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_14 : Ref sig .tc := ⟨.hbm, 119, rfl⟩
abbrev main_cst_15 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_cst : Ref sig .tc := ⟨.hbm, 124, rfl⟩
abbrev main_call4_v3 : Ref sig .tc := ⟨.hbm, 125, rfl⟩
abbrev main_call4_v4 : Ref sig .tc := ⟨.hbm, 126, rfl⟩
abbrev main_call4_cst_0 : Ref sig .tc := ⟨.hbm, 127, rfl⟩
abbrev main_call4_v5 : Ref sig .tc := ⟨.hbm, 128, rfl⟩
abbrev main_call4_v6 : Ref sig .tc := ⟨.hbm, 129, rfl⟩
abbrev main_call4_v7 : Ref sig .tc := ⟨.hbm, 130, rfl⟩
abbrev main_call4_cst_1 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_v15 : Ref sig .tc := ⟨.hbm, 139, rfl⟩
abbrev main_call4_v16 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_cst_16 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_call5_cst : Ref sig .tc := ⟨.hbm, 155, rfl⟩
abbrev main_call5_v0 : Ref sig .tc := ⟨.hbm, 156, rfl⟩
abbrev main_v93 : Ref sig .tc := ⟨.hbm, 157, rfl⟩
abbrev main_cst_17 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_call6_cst : Ref sig .tc := ⟨.hbm, 164, rfl⟩
abbrev main_call6_v0 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_18 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_cst_19 : Ref sig .tc := ⟨.hbm, 179, rfl⟩
abbrev main_v111 : Ref sig .tc := ⟨.hbm, 180, rfl⟩
abbrev main_v112 : Ref sig .tc := ⟨.hbm, 181, rfl⟩
abbrev main_cst_20 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_cst_21 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_c_22 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_cst_23 : Ref sig .tc := ⟨.hbm, 211, rfl⟩
abbrev main_call7_v0 : Ref sig .tc := ⟨.hbm, 212, rfl⟩
abbrev main_call7_v1 : Ref sig .tc := ⟨.hbm, 213, rfl⟩
abbrev main_call7_v2 : Ref sig .tc := ⟨.hbm, 214, rfl⟩
abbrev main_v139 : Ref sig .tc := ⟨.hbm, 215, rfl⟩
abbrev main_v140 : Ref sig .tc := ⟨.hbm, 216, rfl⟩
abbrev main_values_24 : Ref sig .tc := ⟨.hbm, 217, rfl⟩
abbrev main_indices_25 : Ref sig .tc := ⟨.hbm, 218, rfl⟩
abbrev main_v141 : Ref sig .tc := ⟨.hbm, 219, rfl⟩
abbrev main_c_26 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_c_27 : Ref sig .tc := ⟨.hbm, 230, rfl⟩
abbrev main_v151 : Ref sig .tc := ⟨.hbm, 231, rfl⟩
abbrev main_v152 : Ref sig .tc := ⟨.hbm, 232, rfl⟩
abbrev main_c_28 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_c_29 : Ref sig .tc := ⟨.hbm, 239, rfl⟩
abbrev main_v158 : Ref sig .tc := ⟨.hbm, 240, rfl⟩
abbrev main_v159 : Ref sig .tc := ⟨.hbm, 241, rfl⟩
abbrev main_c_30 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_call8_v0 : Ref sig .tc := ⟨.hbm, 249, rfl⟩
abbrev main_call8_cst : Ref sig .tc := ⟨.hbm, 250, rfl⟩
abbrev main_call8_v1 : Ref sig .tc := ⟨.hbm, 251, rfl⟩
abbrev main_v166 : Ref sig .tc := ⟨.hbm, 252, rfl⟩
abbrev main_call9_v0 : Ref sig .tc := ⟨.hbm, 253, rfl⟩
abbrev main_call9_cst : Ref sig .tc := ⟨.hbm, 254, rfl⟩
abbrev main_call9_v1 : Ref sig .tc := ⟨.hbm, 255, rfl⟩
abbrev main_call9_v2 : Ref sig .tc := ⟨.hbm, 256, rfl⟩
abbrev main_v167 : Ref sig .tc := ⟨.hbm, 257, rfl⟩
abbrev main_cst_31 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_c_32 : Ref sig .tc := ⟨.hbm, 263, rfl⟩
abbrev main_v172 : Ref sig .tc := ⟨.hbm, 264, rfl⟩
abbrev main_v173 : Ref sig .tc := ⟨.hbm, 265, rfl⟩
abbrev main_c_33 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_c_34 : Ref sig .tc := ⟨.hbm, 272, rfl⟩
abbrev main_v179 : Ref sig .tc := ⟨.hbm, 273, rfl⟩
abbrev main_v180 : Ref sig .tc := ⟨.hbm, 274, rfl⟩
abbrev main_c_35 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_cst_36 : Ref sig .tc := ⟨.hbm, 281, rfl⟩
abbrev main_cst_37 : Ref sig .tc := ⟨.hbm, 282, rfl⟩
abbrev main_call10_v0 : Ref sig .tc := ⟨.hbm, 283, rfl⟩
abbrev main_call10_v1 : Ref sig .tc := ⟨.hbm, 284, rfl⟩
abbrev main_call10_v2 : Ref sig .tc := ⟨.hbm, 285, rfl⟩
abbrev main_call10_cst : Ref sig .tc := ⟨.hbm, 286, rfl⟩
abbrev main_call10_v3 : Ref sig .tc := ⟨.hbm, 287, rfl⟩
abbrev main_call10_v4 : Ref sig .tc := ⟨.hbm, 288, rfl⟩
abbrev main_call10_cst_0 : Ref sig .tc := ⟨.hbm, 289, rfl⟩
abbrev main_call10_v5 : Ref sig .tc := ⟨.hbm, 290, rfl⟩
abbrev main_call10_v6 : Ref sig .tc := ⟨.hbm, 291, rfl⟩
abbrev main_call10_v7 : Ref sig .tc := ⟨.hbm, 292, rfl⟩
abbrev main_call10_cst_1 : Ref sig .tc := ⟨.hbm, 293, rfl⟩
abbrev main_call10_v8 : Ref sig .tc := ⟨.hbm, 294, rfl⟩
abbrev main_call10_v9 : Ref sig .tc := ⟨.hbm, 295, rfl⟩
abbrev main_call10_v10 : Ref sig .tc := ⟨.hbm, 296, rfl⟩
abbrev main_call10_v11 : Ref sig .tc := ⟨.hbm, 297, rfl⟩
abbrev main_call10_v12 : Ref sig .tc := ⟨.hbm, 298, rfl⟩
abbrev main_call10_v13 : Ref sig .tc := ⟨.hbm, 299, rfl⟩
abbrev main_call10_v14 : Ref sig .tc := ⟨.hbm, 300, rfl⟩
abbrev main_call10_v15 : Ref sig .tc := ⟨.hbm, 301, rfl⟩
abbrev main_call10_v16 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_cst_38 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_call11_cst : Ref sig .tc := ⟨.hbm, 317, rfl⟩
abbrev main_call11_v0 : Ref sig .tc := ⟨.hbm, 318, rfl⟩
abbrev main_v199 : Ref sig .tc := ⟨.hbm, 319, rfl⟩
abbrev main_cst_39 : Ref sig .tc := ⟨.hbm, 320, rfl⟩
abbrev main_v200 : Ref sig .tc := ⟨.hbm, 321, rfl⟩
abbrev main_v201 : Ref sig .tc := ⟨.hbm, 322, rfl⟩
abbrev main_v202 : Ref sig .tc := ⟨.hbm, 323, rfl⟩
abbrev main_v203 : Ref sig .tc := ⟨.hbm, 324, rfl⟩
abbrev main_v204 : Ref sig .tc := ⟨.hbm, 325, rfl⟩
abbrev main_call12_cst : Ref sig .tc := ⟨.hbm, 326, rfl⟩
abbrev main_call12_v0 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_cst_40 : Ref sig .tc := ⟨.hbm, 335, rfl⟩
abbrev main_v212 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_cst_41 : Ref sig .tc := ⟨.hbm, 341, rfl⟩
abbrev main_v217 : Ref sig .tc := ⟨.hbm, 342, rfl⟩
abbrev main_v218 : Ref sig .tc := ⟨.hbm, 343, rfl⟩
abbrev main_cst_42 : Ref sig .tc := ⟨.hbm, 344, rfl⟩
abbrev main_v219 : Ref sig .tc := ⟨.hbm, 345, rfl⟩
abbrev main_v220 : Ref sig .tc := ⟨.hbm, 346, rfl⟩
abbrev main_v221 : Ref sig .tc := ⟨.hbm, 347, rfl⟩
abbrev main_v222 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_cst_43 : Ref sig .tc := ⟨.hbm, 364, rfl⟩
abbrev main_v238 : Ref sig .tc := ⟨.hbm, 365, rfl⟩
abbrev main_v239 : Ref sig .tc := ⟨.hbm, 366, rfl⟩
abbrev main_v240 : Ref sig .tc := ⟨.hbm, 367, rfl⟩
abbrev main_c_44 : Ref sig .tc := ⟨.hbm, 368, rfl⟩
abbrev main_v241 : Ref sig .tc := ⟨.hbm, 369, rfl⟩
abbrev main_v242 : Ref sig .tc := ⟨.hbm, 370, rfl⟩
abbrev main_v243 : Ref sig .tc := ⟨.hbm, 371, rfl⟩
abbrev main_v244 : Ref sig .tc := ⟨.hbm, 372, rfl⟩
abbrev main_cst_45 : Ref sig .tc := ⟨.hbm, 373, rfl⟩
abbrev main_call13_v0 : Ref sig .tc := ⟨.hbm, 374, rfl⟩
abbrev main_call13_v1 : Ref sig .tc := ⟨.hbm, 375, rfl⟩
abbrev main_call13_v2 : Ref sig .tc := ⟨.hbm, 376, rfl⟩
abbrev main_v245 : Ref sig .tc := ⟨.hbm, 377, rfl⟩
abbrev main_v246 : Ref sig .tc := ⟨.hbm, 378, rfl⟩
abbrev main_values_46 : Ref sig .tc := ⟨.hbm, 379, rfl⟩
abbrev main_indices_47 : Ref sig .tc := ⟨.hbm, 380, rfl⟩
abbrev main_v247 : Ref sig .tc := ⟨.hbm, 381, rfl⟩
abbrev main_c_48 : Ref sig .tc := ⟨.hbm, 382, rfl⟩
abbrev main_v248 : Ref sig .tc := ⟨.hbm, 383, rfl⟩
abbrev main_v249 : Ref sig .tc := ⟨.hbm, 384, rfl⟩
abbrev main_v250 : Ref sig .tc := ⟨.hbm, 385, rfl⟩
abbrev main_v251 : Ref sig .tc := ⟨.hbm, 386, rfl⟩
abbrev main_v252 : Ref sig .tc := ⟨.hbm, 387, rfl⟩
abbrev main_v253 : Ref sig .tc := ⟨.hbm, 388, rfl⟩
abbrev main_v254 : Ref sig .tc := ⟨.hbm, 389, rfl⟩
abbrev main_v255 : Ref sig .tc := ⟨.hbm, 390, rfl⟩
abbrev main_v256 : Ref sig .tc := ⟨.hbm, 391, rfl⟩
abbrev main_c_49 : Ref sig .tc := ⟨.hbm, 392, rfl⟩
abbrev main_v257 : Ref sig .tc := ⟨.hbm, 393, rfl⟩
abbrev main_v258 : Ref sig .tc := ⟨.hbm, 394, rfl⟩
abbrev main_c_50 : Ref sig .tc := ⟨.hbm, 395, rfl⟩
abbrev main_v259 : Ref sig .tc := ⟨.hbm, 396, rfl⟩
abbrev main_v260 : Ref sig .tc := ⟨.hbm, 397, rfl⟩
abbrev main_v261 : Ref sig .tc := ⟨.hbm, 398, rfl⟩
abbrev main_v262 : Ref sig .tc := ⟨.hbm, 399, rfl⟩
abbrev main_v263 : Ref sig .tc := ⟨.hbm, 400, rfl⟩
abbrev main_c_51 : Ref sig .tc := ⟨.hbm, 401, rfl⟩
abbrev main_v264 : Ref sig .tc := ⟨.hbm, 402, rfl⟩
abbrev main_v265 : Ref sig .tc := ⟨.hbm, 403, rfl⟩
abbrev main_c_52 : Ref sig .tc := ⟨.hbm, 404, rfl⟩
abbrev main_v266 : Ref sig .tc := ⟨.hbm, 405, rfl⟩
abbrev main_v267 : Ref sig .tc := ⟨.hbm, 406, rfl⟩
abbrev main_v268 : Ref sig .tc := ⟨.hbm, 407, rfl⟩
abbrev main_v269 : Ref sig .tc := ⟨.hbm, 408, rfl⟩
abbrev main_v270 : Ref sig .tc := ⟨.hbm, 409, rfl⟩
abbrev main_v271 : Ref sig .tc := ⟨.hbm, 410, rfl⟩
abbrev main_call14_v0 : Ref sig .tc := ⟨.hbm, 411, rfl⟩
abbrev main_call14_cst : Ref sig .tc := ⟨.hbm, 412, rfl⟩
abbrev main_call14_v1 : Ref sig .tc := ⟨.hbm, 413, rfl⟩
abbrev main_v272 : Ref sig .tc := ⟨.hbm, 414, rfl⟩
abbrev main_call15_v0 : Ref sig .tc := ⟨.hbm, 415, rfl⟩
abbrev main_call15_cst : Ref sig .tc := ⟨.hbm, 416, rfl⟩
abbrev main_call15_v1 : Ref sig .tc := ⟨.hbm, 417, rfl⟩
abbrev main_call15_v2 : Ref sig .tc := ⟨.hbm, 418, rfl⟩
abbrev main_v273 : Ref sig .tc := ⟨.hbm, 419, rfl⟩
abbrev main_cst_53 : Ref sig .tc := ⟨.hbm, 420, rfl⟩
abbrev main_v274 : Ref sig .tc := ⟨.hbm, 421, rfl⟩
abbrev main_v275 : Ref sig .tc := ⟨.hbm, 422, rfl⟩
abbrev main_v276 : Ref sig .tc := ⟨.hbm, 423, rfl⟩
abbrev main_v277 : Ref sig .tc := ⟨.hbm, 424, rfl⟩
abbrev main_c_54 : Ref sig .tc := ⟨.hbm, 425, rfl⟩
abbrev main_v278 : Ref sig .tc := ⟨.hbm, 426, rfl⟩
abbrev main_v279 : Ref sig .tc := ⟨.hbm, 427, rfl⟩
abbrev main_c_55 : Ref sig .tc := ⟨.hbm, 428, rfl⟩
abbrev main_v280 : Ref sig .tc := ⟨.hbm, 429, rfl⟩
abbrev main_v281 : Ref sig .tc := ⟨.hbm, 430, rfl⟩
abbrev main_v282 : Ref sig .tc := ⟨.hbm, 431, rfl⟩
abbrev main_v283 : Ref sig .tc := ⟨.hbm, 432, rfl⟩
abbrev main_v284 : Ref sig .tc := ⟨.hbm, 433, rfl⟩
abbrev main_c_56 : Ref sig .tc := ⟨.hbm, 434, rfl⟩
abbrev main_v285 : Ref sig .tc := ⟨.hbm, 435, rfl⟩
abbrev main_v286 : Ref sig .tc := ⟨.hbm, 436, rfl⟩
abbrev main_c_57 : Ref sig .tc := ⟨.hbm, 437, rfl⟩
abbrev main_v287 : Ref sig .tc := ⟨.hbm, 438, rfl⟩
abbrev main_v288 : Ref sig .tc := ⟨.hbm, 439, rfl⟩
abbrev main_v289 : Ref sig .tc := ⟨.hbm, 440, rfl⟩
abbrev main_v290 : Ref sig .tc := ⟨.hbm, 441, rfl⟩
abbrev main_v291 : Ref sig .tc := ⟨.hbm, 442, rfl⟩
abbrev main_cst_58 : Ref sig .tc := ⟨.hbm, 443, rfl⟩
abbrev main_cst_59 : Ref sig .tc := ⟨.hbm, 444, rfl⟩
abbrev main_call16_v0 : Ref sig .tc := ⟨.hbm, 445, rfl⟩
abbrev main_call16_v1 : Ref sig .tc := ⟨.hbm, 446, rfl⟩
abbrev main_call16_v2 : Ref sig .tc := ⟨.hbm, 447, rfl⟩
abbrev main_call16_cst : Ref sig .tc := ⟨.hbm, 448, rfl⟩
abbrev main_call16_v3 : Ref sig .tc := ⟨.hbm, 449, rfl⟩
abbrev main_call16_v4 : Ref sig .tc := ⟨.hbm, 450, rfl⟩
abbrev main_call16_cst_0 : Ref sig .tc := ⟨.hbm, 451, rfl⟩
abbrev main_call16_v5 : Ref sig .tc := ⟨.hbm, 452, rfl⟩
abbrev main_call16_v6 : Ref sig .tc := ⟨.hbm, 453, rfl⟩
abbrev main_call16_v7 : Ref sig .tc := ⟨.hbm, 454, rfl⟩
abbrev main_call16_cst_1 : Ref sig .tc := ⟨.hbm, 455, rfl⟩
abbrev main_call16_v8 : Ref sig .tc := ⟨.hbm, 456, rfl⟩
abbrev main_call16_v9 : Ref sig .tc := ⟨.hbm, 457, rfl⟩
abbrev main_call16_v10 : Ref sig .tc := ⟨.hbm, 458, rfl⟩
abbrev main_call16_v11 : Ref sig .tc := ⟨.hbm, 459, rfl⟩
abbrev main_call16_v12 : Ref sig .tc := ⟨.hbm, 460, rfl⟩
abbrev main_call16_v13 : Ref sig .tc := ⟨.hbm, 461, rfl⟩
abbrev main_call16_v14 : Ref sig .tc := ⟨.hbm, 462, rfl⟩
abbrev main_call16_v15 : Ref sig .tc := ⟨.hbm, 463, rfl⟩
abbrev main_call16_v16 : Ref sig .tc := ⟨.hbm, 464, rfl⟩
abbrev main_v292 : Ref sig .tc := ⟨.hbm, 465, rfl⟩
abbrev main_v293 : Ref sig .tc := ⟨.hbm, 466, rfl⟩
abbrev main_v294 : Ref sig .tc := ⟨.hbm, 467, rfl⟩
abbrev main_v295 : Ref sig .tc := ⟨.hbm, 468, rfl⟩
abbrev main_v296 : Ref sig .tc := ⟨.hbm, 469, rfl⟩
abbrev main_v297 : Ref sig .tc := ⟨.hbm, 470, rfl⟩
abbrev main_cst_60 : Ref sig .tc := ⟨.hbm, 471, rfl⟩
abbrev main_v298 : Ref sig .tc := ⟨.hbm, 472, rfl⟩
abbrev main_v299 : Ref sig .tc := ⟨.hbm, 473, rfl⟩
abbrev main_v300 : Ref sig .tc := ⟨.hbm, 474, rfl⟩
abbrev main_v301 : Ref sig .tc := ⟨.hbm, 475, rfl⟩
abbrev main_v302 : Ref sig .tc := ⟨.hbm, 476, rfl⟩
abbrev main_v303 : Ref sig .tc := ⟨.hbm, 477, rfl⟩
abbrev main_v304 : Ref sig .tc := ⟨.hbm, 478, rfl⟩
abbrev main_call17_cst : Ref sig .tc := ⟨.hbm, 479, rfl⟩
abbrev main_call17_v0 : Ref sig .tc := ⟨.hbm, 480, rfl⟩
abbrev main_v305 : Ref sig .tc := ⟨.hbm, 481, rfl⟩
abbrev main_cst_61 : Ref sig .tc := ⟨.hbm, 482, rfl⟩
abbrev main_v306 : Ref sig .tc := ⟨.hbm, 483, rfl⟩
abbrev main_v307 : Ref sig .tc := ⟨.hbm, 484, rfl⟩
abbrev main_v308 : Ref sig .tc := ⟨.hbm, 485, rfl⟩
abbrev main_v309 : Ref sig .tc := ⟨.hbm, 486, rfl⟩
abbrev main_v310 : Ref sig .tc := ⟨.hbm, 487, rfl⟩
abbrev main_call18_cst : Ref sig .tc := ⟨.hbm, 488, rfl⟩
abbrev main_call18_v0 : Ref sig .tc := ⟨.hbm, 489, rfl⟩
abbrev main_v311 : Ref sig .tc := ⟨.hbm, 490, rfl⟩
abbrev main_v312 : Ref sig .tc := ⟨.hbm, 491, rfl⟩
abbrev main_v313 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_v317 : Ref sig .tc := ⟨.hbm, 496, rfl⟩
abbrev main_cst_62 : Ref sig .tc := ⟨.hbm, 497, rfl⟩
abbrev main_v318 : Ref sig .tc := ⟨.hbm, 498, rfl⟩
abbrev main_v319 : Ref sig .tc := ⟨.hbm, 499, rfl⟩
abbrev main_v320 : Ref sig .tc := ⟨.hbm, 500, rfl⟩
abbrev main_v321 : Ref sig .tc := ⟨.hbm, 501, rfl⟩
abbrev main_v322 : Ref sig .tc := ⟨.hbm, 502, rfl⟩
abbrev main_cst_63 : Ref sig .tc := ⟨.hbm, 503, rfl⟩
abbrev main_v323 : Ref sig .tc := ⟨.hbm, 504, rfl⟩
abbrev main_v324 : Ref sig .tc := ⟨.hbm, 505, rfl⟩
abbrev main_cst_64 : Ref sig .tc := ⟨.hbm, 506, rfl⟩
abbrev main_v325 : Ref sig .tc := ⟨.hbm, 507, rfl⟩
abbrev main_v326 : Ref sig .tc := ⟨.hbm, 508, rfl⟩
abbrev main_v327 : Ref sig .tc := ⟨.hbm, 509, rfl⟩
abbrev main_v328 : Ref sig .tc := ⟨.hbm, 510, rfl⟩
abbrev main_v329 : Ref sig .tc := ⟨.hbm, 511, rfl⟩
abbrev main_cst_65 : Ref sig .tc := ⟨.hbm, 512, rfl⟩
abbrev main_v330 : Ref sig .tc := ⟨.hbm, 513, rfl⟩
abbrev main_v331 : Ref sig .tc := ⟨.hbm, 514, rfl⟩
abbrev main_v332 : Ref sig .tc := ⟨.hbm, 515, rfl⟩

abbrev nD : Nat := 1
abbrev τ : Topo := Topo.v7x

variable {F : FTy → Type} [FloatOps F]
-- ==== Proof.KLayer.lean ====
/- One layer of the kernel as vector expressions of its six input blocks, stated once: the sixteen selection rounds
   over the masked scores, and one function for a chunk of 128 rows at any row offset. `KLayerEq` shows that what the
   three layer regions store is these. -/
module

public import proofs.«01_k».proof.Proof.Gen.KernelIdeal.Skeleton

@[expose] public section

set_option maxRecDepth 16384

noncomputable section

namespace Cert.KernelIdeal.Lay

open Idealize.ShloMosaic Cert.KernelIdeal.Gen

variable {F : FTy → Type} [FloatOps F] [Named F]

/-- The column numbers of a 512×512 score matrix. -/
def cols : IVec S512x512 32 := iota .tc S512x512 32 [1] iota_S512x512_d1_w32

/-- Per row, the least column among those whose score is at most the row's minimum. -/
def pick (s : FVec F S512x512 .f32) : IVec S512x1 32 :=
  shapeCast S512x1
    (multiReductionI .minsi [1] S512
      (select
        (cmpf .ole s
          (broadcastTo S512x512
            (shapeCast S512x1 (multiReduction .minimumf [1] S512 s 0x7F800000#32 reduces_S512x512_S512 (.inl rfl) rfl)
              shapeCasts_S512_S512x1)
            broadcasts_S512x1_S512x512))
        cols (broadcast S512x512 512#32))
      2147483647#32 reduces_S512x512_S512 rfl)
    shapeCasts_S512_S512x1

/-- The scores with every row's picked column set to the far constant. -/
def mask (s : FVec F S512x512 .f32) : FVec F S512x512 .f32 :=
  select (cmpi .eq cols (broadcastTo S512x512 (pick s) broadcasts_S512x1_S512x512))
    (broadcast S512x512 (Named.named κ "far" 0x501502F9#32)) s

/-- The scores after `n` rounds. -/
def round (s : FVec F S512x512 .f32) : ℕ → FVec F S512x512 .f32
  | 0 => s
  | n + 1 => mask (round s n)

/-- The column picked in round `n`. -/
def sel (s : FVec F S512x512 .f32) (n : ℕ) : IVec S512x1 32 := pick (round s n)

/-- One round's picks of the chunk at row `o`, one-hot over the 512 columns. -/
def oneHot (o : ℕ) (h1 : S512x1.Slices ![o, 0] S128x1) (v : IVec S512x1 32) : FVec F S128x512 .f32 :=
  sitofp .f32
    (extui 32
      (cmpi .eq (broadcastTo S128x512 (extractStridedSlice S128x1 ![o, 0] v h1) broadcasts_S128x1_S128x512)
        (iota .tc S128x512 32 [1] iota_S128x512_d1_w32))
      natLt_1_32)

/-- The table a chunk gathers from: the features and the positions in three addends. -/
def tbl (pos : FVec F S512x3 .f32) (h : FVec F S512x128 .f32) : FVec F S512x137 .f32 := k1_pay40 pos h

/-- The rows a chunk gathers: round-major, row `128 t + r` is the `t`-th pick of the chunk's row `r`. -/
def gath (o : ℕ) (h1 : S512x1.Slices ![o, 0] S128x1) (p : ℕ → IVec S512x1 32) (tb : FVec F S512x137 .f32) :
    FVec F S2048x137 .f32 :=
  matmul dot_S2048x512_S512x137_S2048x137_1_0_0_1_n_n none
    (concatenate S2048x512 0
      [⟨S128x512, oneHot o h1 (p 0)⟩, ⟨S128x512, oneHot o h1 (p 1)⟩, ⟨S128x512, oneHot o h1 (p 2)⟩,
        ⟨S128x512, oneHot o h1 (p 3)⟩, ⟨S128x512, oneHot o h1 (p 4)⟩, ⟨S128x512, oneHot o h1 (p 5)⟩,
        ⟨S128x512, oneHot o h1 (p 6)⟩, ⟨S128x512, oneHot o h1 (p 7)⟩, ⟨S128x512, oneHot o h1 (p 8)⟩,
        ⟨S128x512, oneHot o h1 (p 9)⟩, ⟨S128x512, oneHot o h1 (p 10)⟩, ⟨S128x512, oneHot o h1 (p 11)⟩,
        ⟨S128x512, oneHot o h1 (p 12)⟩, ⟨S128x512, oneHot o h1 (p 13)⟩, ⟨S128x512, oneHot o h1 (p 14)⟩,
        ⟨S128x512, oneHot o h1 (p 15)⟩]
      concatenates_S128x512_S128x512_S128x512_S128x512_S128x512_S128x512_S128x512_S128x512_S128x512_S128x512_S128x512_S128x512_S128x512_S128x512_S128x512_S128x512_S2048x512_d0)
    tb (constant S2048x137 .f32 0x00000000#32)

/-- An edge's displacement: the gathered position minus the row's own. -/
def dvec (o : ℕ) (h3 : S512x3.Slices ![o, 0] S128x3) (pos : FVec F S512x3 .f32) (g : FVec F S2048x137 .f32) :
    FVec F S2048x3 .f32 :=
  subf
    (addf
      (addf (extractStridedSlice S2048x3 ![0, 128] g slices_S2048x137_o0_128_S2048x3)
        (extractStridedSlice S2048x3 ![0, 131] g slices_S2048x137_o0_131_S2048x3))
      (extractStridedSlice S2048x3 ![0, 134] g slices_S2048x137_o0_134_S2048x3))
    (shapeCast S2048x3
      (broadcastTo S16x128x3
        (shapeCast S1x128x3
          (shapeCast S1x128x3 (extractStridedSlice S128x3 ![o, 0] pos h3) shapeCasts_S128x3_S1x128x3)
          shapeCasts_S1x128x3_S1x128x3)
        broadcasts_S1x128x3_S16x128x3)
      shapeCasts_S16x128x3_S2048x3)

/-- An edge's length. -/
def dist (d : FVec F S2048x3 .f32) : FVec F S2048x1 .f32 :=
  sqrt (shapeCast S2048x1
    (multiReduction .add [1] S2048 (mulf d d) 0x00000000#32 reduces_S2048x3_S2048 (.inl rfl) rfl)
    shapeCasts_S2048_S2048x1)

/-- An edge's message. -/
def msg (o : ℕ) (hh : S512x128.Slices ![o, 0] S128x128) (h : FVec F S512x128 .f32) (g : FVec F S2048x137 .f32)
    (ds : FVec F S2048x1 .f32) (we : FVec F S272x128 .f32) : FVec F S2048x128 .f32 :=
  have v343 : FVec F S2048x16 .f32 :=
    subf (broadcastTo S2048x16 ds broadcasts_S2048x1_S2048x16) (broadcastTo S2048x16 (k1_pay41 (F := F)) broadcasts_S1x16_S2048x16)
  have v345 : FVec F S2048x16 .f32 := divf v343 (broadcast S2048x16 (Scalar.ofBits .f32 0x3FA00000#32))
  have v349 : FVec F S2048x16 .f32 :=
    exp (subf (broadcast S2048x16 (Scalar.ofBits .f32 0x00000000#32)) (mulf v345 v345))
  maximumf
    (matmul dot_S2048x272_S272x128_S2048x128_1_0_0_1_n_n none
      (concatenate S2048x272 1
        [⟨S2048x128, extractStridedSlice S2048x128 ![0, 0] g slices_S2048x137_o0_0_S2048x128⟩,
          ⟨S2048x128, shapeCast S2048x128
            (broadcastTo S16x128x128
              (shapeCast S1x128x128
                (shapeCast S1x128x128 (extractStridedSlice S128x128 ![o, 0] h hh) shapeCasts_S128x128_S1x128x128)
                shapeCasts_S1x128x128_S1x128x128)
              broadcasts_S1x128x128_S16x128x128)
            shapeCasts_S16x128x128_S2048x128⟩,
          ⟨S2048x16, v349⟩]
        concatenates_S2048x128_S2048x128_S2048x16_S2048x272_d1)
      (shapeCast S272x128 we shapeCasts_S272x128_S272x128) (constant S2048x128 .f32 0x00000000#32))
    (broadcast S2048x128 (Scalar.ofBits .f32 0x00000000#32))

theorem slices16_128 (n : ℕ) (hn : n < 16) : S16x128x128.Slices ![n, 0, 0] S1x128x128 := by
  interval_cases n <;> decide

theorem slices16_9 (n : ℕ) (hn : n < 16) : S16x128x9.Slices ![n, 0, 0] S1x128x9 := by
  interval_cases n <;> decide

/-- The first `n + 1` rounds' messages added up, per row of the chunk. -/
def agg (x : FVec F S16x128x128 .f32) : (n : ℕ) → n < 16 → FVec F S128x128 .f32
  | 0, h => shapeCast S128x128 (extractStridedSlice S1x128x128 ![0, 0, 0] x (slices16_128 0 h)) shapeCasts_S1x128x128_S128x128
  | n + 1, h => addf (agg x n (Nat.lt_of_succ_lt h))
      (shapeCast S128x128 (extractStridedSlice S1x128x128 ![n + 1, 0, 0] x (slices16_128 (n + 1) h)) shapeCasts_S1x128x128_S128x128)

/-- The first `n + 1` rounds' coordinate updates added up, per row of the chunk. -/
def dagg (x : FVec F S16x128x9 .f32) : (n : ℕ) → n < 16 → FVec F S128x9 .f32
  | 0, h => shapeCast S128x9 (extractStridedSlice S1x128x9 ![0, 0, 0] x (slices16_9 0 h)) shapeCasts_S1x128x9_S128x9
  | n + 1, h => addf (dagg x n (Nat.lt_of_succ_lt h))
      (shapeCast S128x9 (extractStridedSlice S1x128x9 ![n + 1, 0, 0] x (slices16_9 (n + 1) h)) shapeCasts_S1x128x9_S128x9)

/-- A chunk's new features. -/
def chunkH (o : ℕ) (hh : S512x128.Slices ![o, 0] S128x128) (hwh : FVec F S512x128 .f32) (ms : FVec F S2048x128 .f32) :
    FVec F S128x128 .f32 :=
  maximumf
    (addf (extractStridedSlice S128x128 ![o, 0] hwh hh)
      (agg (shapeCast S16x128x128 ms shapeCasts_S2048x128_S16x128x128) 15 (by decide)))
    (broadcast S128x128 (Scalar.ofBits .f32 0x00000000#32))

/-- A chunk's new coordinates. -/
def chunkX (o : ℕ) (h9 : S512x9.Slices ![o, 0] S128x9) (cb : FVec F S512x9 .f32) (d : FVec F S2048x3 .f32)
    (ds : FVec F S2048x1 .f32) (ms : FVec F S2048x128 .f32) (ws : FVec F S128x3 .f32) : FVec F S128x9 .f32 :=
  addf (extractStridedSlice S128x9 ![o, 0] cb h9) (dagg (k1_pay59 d ds ms ws) 15 (by decide))

end Cert.KernelIdeal.Lay

end
-- ==== Proof.KLayerEq.lean ====
/- What the layer regions store, as the vector functions of `KLayer`. -/
module

public import proofs.«01_k».proof.Proof.KLayer
public import proofs.«01_k».proof.Proof.Gen.KernelIdeal.Frame.Region1
public import proofs.«01_k».proof.Proof.Gen.KernelIdeal.Frame.Region2
public import proofs.«01_k».proof.Proof.Gen.KernelIdeal.Frame.Region3

@[expose] public section

set_option maxRecDepth 16384

noncomputable section

namespace Cert.KernelIdeal.Lay

open Idealize.ShloMosaic Cert.KernelIdeal.Gen

variable {F : FTy → Type} [FloatOps F] [Named F]

variable (h : Vec F S512x128 .f32) (x1 : Vec F S512x9 .f32) (x2 : Vec F S4096x9 .f32) (x3 : Vec F S128x128 .f32)
  (x4 : Vec F S272x128 .f32) (x5 : Vec F S128x3 .f32)

/-- The centred coordinates, the positions and the first scores of a block. -/
def cbK : FVec F S512x9 .f32 := k1_pay3 (View.ld x2 r1_0) (View.ld x1 r1_1)
def posK : FVec F S512x3 .f32 := k1_pay4 (View.ld x2 r1_0) (View.ld x1 r1_1)
def scoreK : FVec F S512x512 .f32 := k1_pay5 (View.ld x2 r1_0) (View.ld x1 r1_1)
def gathK (o : ℕ) (h1 : S512x1.Slices ![o, 0] S128x1) : FVec F S2048x137 .f32 :=
  gath o h1 (sel (scoreK x1 x2)) (tbl (posK x1 x2) (h))
def dvecK (o : ℕ) (h1 : S512x1.Slices ![o, 0] S128x1) (h3 : S512x3.Slices ![o, 0] S128x3) : FVec F S2048x3 .f32 :=
  dvec o h3 (posK x1 x2) (gathK h x1 x2 o h1)
def distK (o : ℕ) (h1 : S512x1.Slices ![o, 0] S128x1) (h3 : S512x3.Slices ![o, 0] S128x3) : FVec F S2048x1 .f32 :=
  dist (dvecK h x1 x2 o h1 h3)
def msgK (o : ℕ) (h1 : S512x1.Slices ![o, 0] S128x1) (h3 : S512x3.Slices ![o, 0] S128x3)
    (hh : S512x128.Slices ![o, 0] S128x128) : FVec F S2048x128 .f32 :=
  msg o hh (h) (gathK h x1 x2 o h1) (distK h x1 x2 o h1 h3) (View.ld x4 r1_4)
def hwhK : FVec F S512x128 .f32 := k1_pay39 (h) (View.ld x3 r1_3)
def hPiece (o : ℕ) (h1 : S512x1.Slices ![o, 0] S128x1) (h3 : S512x3.Slices ![o, 0] S128x3)
    (hh : S512x128.Slices ![o, 0] S128x128) : FVec F S128x128 .f32 :=
  chunkH o hh (hwhK h x3) (msgK h x1 x2 x4 o h1 h3 hh)
def xPiece (o : ℕ) (h1 : S512x1.Slices ![o, 0] S128x1) (h3 : S512x3.Slices ![o, 0] S128x3)
    (hh : S512x128.Slices ![o, 0] S128x128) (h9 : S512x9.Slices ![o, 0] S128x9) : FVec F S128x9 .f32 :=
  chunkX o h9 (cbK x1 x2) (dvecK h x1 x2 o h1 h3) (distK h x1 x2 o h1 h3) (msgK h x1 x2 x4 o h1 h3 hh) (View.ld x5 r1_5)

/-- A layer's features and coordinates, from the features as loaded and the other blocks. -/
def lay6 : Vec F S512x128 .f32 := View.canon
    [⟨r1_12, hPiece h x1 x2 x3 x4 384 slices_S512x1_o384_0_S128x1 slices_S512x3_o384_0_S128x3 slices_S512x128_o384_0_S128x128⟩,
      ⟨r1_10, hPiece h x1 x2 x3 x4 256 slices_S512x1_o256_0_S128x1 slices_S512x3_o256_0_S128x3 slices_S512x128_o256_0_S128x128⟩,
      ⟨r1_8, hPiece h x1 x2 x3 x4 128 slices_S512x1_o128_0_S128x1 slices_S512x3_o128_0_S128x3 slices_S512x128_o128_0_S128x128⟩,
      ⟨r1_6, hPiece h x1 x2 x3 x4 0 slices_S512x1_o0_0_S128x1 slices_S512x3_o0_0_S128x3 slices_S512x128_o0_0_S128x128⟩]
def lay7 : Vec F S512x9 .f32 := View.canon
    [⟨r1_13, xPiece h x1 x2 x4 x5 384 slices_S512x1_o384_0_S128x1 slices_S512x3_o384_0_S128x3 slices_S512x128_o384_0_S128x128 slices_S512x9_o384_0_S128x9⟩,
      ⟨r1_11, xPiece h x1 x2 x4 x5 256 slices_S512x1_o256_0_S128x1 slices_S512x3_o256_0_S128x3 slices_S512x128_o256_0_S128x128 slices_S512x9_o256_0_S128x9⟩,
      ⟨r1_9, xPiece h x1 x2 x4 x5 128 slices_S512x1_o128_0_S128x1 slices_S512x3_o128_0_S128x3 slices_S512x128_o128_0_S128x128 slices_S512x9_o128_0_S128x9⟩,
      ⟨r1_7, xPiece h x1 x2 x4 x5 0 slices_S512x1_o0_0_S128x1 slices_S512x3_o0_0_S128x3 slices_S512x128_o0_0_S128x128 slices_S512x9_o0_0_S128x9⟩]

variable (x0 : Vec F S512x128 .f32)

theorem out1_6_eq : out1_6 x0 x1 x2 x3 x4 x5 = lay6 (View.ld x0 r1_2) x1 x2 x3 x4 := by with_unfolding_all rfl
theorem out1_7_eq : out1_7 x0 x1 x2 x3 x4 x5 = lay7 (View.ld x0 r1_2) x1 x2 x4 x5 := by with_unfolding_all rfl
theorem out2_6_eq : out2_6 x0 x1 x2 x3 x4 x5 =
    lay6 (shapeCast S512x128 (View.ld x0 r1_2) shapeCasts_S512x128_S512x128) x1 x2 x3 x4 := by with_unfolding_all rfl
theorem out2_7_eq : out2_7 x0 x1 x2 x3 x4 x5 =
    lay7 (shapeCast S512x128 (View.ld x0 r1_2) shapeCasts_S512x128_S512x128) x1 x2 x4 x5 := by with_unfolding_all rfl
theorem out3_6_eq : out3_6 x0 x1 x2 x3 x4 x5 =
    lay6 (shapeCast S512x128 (View.ld x0 r1_2) shapeCasts_S512x128_S512x128) x1 x2 x3 x4 := by with_unfolding_all rfl
theorem out3_7_eq : out3_7 x0 x1 x2 x3 x4 x5 =
    lay7 (shapeCast S512x128 (View.ld x0 r1_2) shapeCasts_S512x128_S512x128) x1 x2 x4 x5 := by with_unfolding_all rfl

end Cert.KernelIdeal.Lay

end
-- ==== Proof.Order.lean ====
/- The stable order of finitely many extended reals: repeated extraction of the first least value, the extracted places
   set to infinity, walks through the stable order, as long as a finite value is left. -/
module

public import Idealize.ShloMosaic.Lib.SortFacts
public import Idealize.ShloMosaic.PureOps.Ideal

@[expose] public section

noncomputable section

namespace Cert.Knn

open Idealize.ShloMosaic

variable {n : ℕ}

/-- `j` is the first place at which `f` is least. -/
def IsPick (f : Fin n → EReal) (j : Fin n) : Prop := (∀ k, f j ≤ f k) ∧ ∀ k, k < j → f j < f k

/-- The places in the stable order of their values, least first. -/
def order (f : Fin n → EReal) : Fin n → Fin n := sortedFrom (fun a b => decide (f a < f b))

/-- `a` comes before `b` in the stable order. -/
def Lex (f : Fin n → EReal) (a b : Fin n) : Prop := f a < f b ∨ (f a = f b ∧ a < b)

theorem lex_insert (f : Fin n → EReal) (a : Fin n) (l : List (Fin n)) (hl : l.Pairwise (Lex f)) (ha : ∀ b ∈ l, a < b) :
    (insertBefore (fun a b => decide (f a < f b)) a l).Pairwise (Lex f) := by
  induction l with
  | nil => exact List.pairwise_singleton _ _
  | cons b l ih =>
    rw [List.pairwise_cons] at hl
    unfold insertBefore
    split
    · rename_i h
      have h : f b < f a := by simpa using h
      refine List.pairwise_cons.mpr ⟨fun c hc => ?_, ih hl.2 fun c hc => ha c (List.mem_cons_of_mem _ hc)⟩
      rcases List.mem_cons.mp ((perm_insertBefore _ a l).mem_iff.mp hc) with rfl | hc'
      · exact .inl h
      · exact hl.1 c hc'
    · rename_i h
      have h : f a ≤ f b := by simpa using h
      have hab : Lex f a b := by
        rcases h.lt_or_eq with h | h
        · exact .inl h
        · exact .inr ⟨h, ha b List.mem_cons_self⟩
      refine List.pairwise_cons.mpr ⟨fun c hc => ?_, List.pairwise_cons.mpr hl⟩
      rcases List.mem_cons.mp hc with rfl | hc'
      · exact hab
      · have hac := ha c (List.mem_cons_of_mem _ hc')
        rcases hl.1 c hc' with h' | ⟨h', _⟩
        · exact .inl (h.trans_lt h')
        · rcases (h.trans_eq h').lt_or_eq with h'' | h''
          · exact .inl h''
          · exact .inr ⟨h'', hac⟩

theorem lex_sort (f : Fin n → EReal) (l : List (Fin n)) (hl : l.Pairwise (· < ·)) :
    (stableSort (fun a b => decide (f a < f b)) l).Pairwise (Lex f) := by
  induction l with
  | nil => exact List.Pairwise.nil
  | cons a l ih =>
    rw [List.pairwise_cons] at hl
    exact lex_insert f a _ (ih hl.2) fun b hb => hl.1 b ((perm_stableSort _ l).mem_iff.mp hb)

/-- The stable order is increasing in the value, and in the place among equal values. -/
theorem order_lex (f : Fin n → EReal) {s t : Fin n} (h : s < t) : Lex f (order f s) (order f t) := by
  have hp := List.pairwise_iff_get.mp (lex_sort f (List.finRange n) (List.pairwise_lt_finRange n))
  exact hp _ _ (show s.val < t.val from h)

theorem order_surjective (f : Fin n → EReal) : Function.Surjective (order f) := sortedFrom_surjective _

theorem order_injective (f : Fin n → EReal) : Function.Injective (order f) := sortedFrom_injective _

/-- The only infinite place comes last. -/
theorem order_lt_top (f : Fin n → EReal) (i : Fin n) (hf : ∀ j, j ≠ i → f j < ⊤) (t : Fin n) (ht : t.val + 1 < n) :
    f (order f t) < ⊤ := by
  by_contra hne
  have heq : f (order f t) = ⊤ := not_lt_top_iff.mp hne
  have hlex := order_lex f (s := t) (t := ⟨t.val + 1, ht⟩) (Nat.lt_succ_self _)
  have hi : order f t = i := by
    by_contra h
    exact absurd (hf _ h) (by simp [heq])
  rcases hlex with h | ⟨h, _⟩
  · rw [heq] at h
    exact absurd h not_top_lt
  · have : order f ⟨t.val + 1, ht⟩ = i := by
      by_contra h'
      have := hf _ h'
      rw [← h, heq] at this
      exact absurd this (lt_irrefl _)
    have h2 := order_injective f (hi.trans this.symm)
    exact absurd (congrArg Fin.val h2) (by simp)

/-- The values with the first `t` places of the order set to infinity. -/
def masked (f : Fin n → EReal) (t : ℕ) (k : Fin n) : EReal :=
  open Classical in if ∃ s : Fin n, s.val < t ∧ order f s = k then ⊤ else f k

theorem masked_zero (f : Fin n → EReal) (k : Fin n) : masked f 0 k = f k := by simp [masked]

/-- Setting the next place to infinity is one step. -/
theorem masked_succ (f : Fin n → EReal) (t : Fin n) (k : Fin n) :
    masked f (t.val + 1) k = if k = order f t then ⊤ else masked f t.val k := by
  unfold masked
  by_cases hk : k = order f t
  · rw [if_pos hk, if_pos ⟨t, Nat.lt_succ_self _, hk.symm⟩]
  · rw [if_neg hk]
    congr 1
    refine propext ⟨fun ⟨s, hs, he⟩ => ⟨s, ?_, he⟩, fun ⟨s, hs, he⟩ => ⟨s, Nat.lt_succ_of_lt hs, he⟩⟩
    rcases Nat.lt_succ_iff_lt_or_eq.mp hs with h | h
    · exact h
    · exact absurd (by rw [← he, Fin.ext h]) hk

/-- The first least of what is left is the next place of the order. -/
theorem isPick_masked (f : Fin n → EReal) (i : Fin n) (hf : ∀ j, j ≠ i → f j < ⊤) (t : Fin n) (ht : t.val + 1 < n) :
    IsPick (masked f t.val) (order f t) := by
  have htop := order_lt_top f i hf t ht
  have hself : masked f t.val (order f t) = f (order f t) := by
    refine if_neg ?_
    rintro ⟨s, hs, he⟩
    exact absurd (congrArg Fin.val (order_injective f he)) (Nat.ne_of_lt hs)
  have hrest : ∀ k, masked f t.val k = ⊤ ∨ (k = order f t) ∨ (masked f t.val k = f k ∧ Lex f (order f t) k) := by
    intro k
    obtain ⟨s, rfl⟩ := order_surjective f k
    by_cases hs : s.val < t.val
    · exact .inl (if_pos ⟨s, hs, rfl⟩)
    · rcases (Nat.le_of_not_lt hs).lt_or_eq with h | h
      · refine .inr (.inr ⟨if_neg ?_, order_lex f h⟩)
        rintro ⟨s', hs', he⟩
        exact hs (by rw [← order_injective f he]; exact hs')
      · exact .inr (.inl (by rw [Fin.ext h]))
  rw [IsPick, hself]
  refine ⟨fun k => ?_, fun k hk => ?_⟩
  · rcases hrest k with h | rfl | ⟨h, h' | ⟨h', _⟩⟩
    · rw [h]; exact le_top
    · rw [hself]
    · rw [h]; exact h'.le
    · rw [h, h']
  · rcases hrest k with h | rfl | ⟨h, h' | ⟨h', h''⟩⟩
    · rw [h]; exact htop
    · exact absurd hk (lt_irrefl _)
    · rw [h]; exact h'
    · exact absurd (hk.trans h'') (lt_irrefl _)

end Cert.Knn

end
-- ==== Proof.Spec.lean ====
/- One layer of the message passing over the extended reals, one protein at a time, and that it keeps finite values
   finite: what both programs are shown to compute. -/
module

public import proofs.«01_k».proof.Proof.Order

@[expose] public section

noncomputable section

namespace Cert.Knn

open Idealize.ShloMosaic

/-! ### The constants -/

/-- The small addend of a direction's divisor. -/
def eps : EReal := Ideal.ofBits .f32 0x322BCC77#32
/-- The width of the radial functions. -/
def width : EReal := Ideal.ofBits .f32 0x3FA00000#32
/-- The number of nodes. -/
def nodes : EReal := Ideal.ofBits .f32 0x45800000#32
/-- The scale of the final coordinates. -/
def scale : EReal := Ideal.ofBits .f32 0x41200000#32
/-- The centre of radial function `q`. -/
def mu (q : Fin 16) : EReal := (((q.val : ℝ) * (4 / 3) : ℝ) : EReal)

theorem ofBits_zero : Ideal.ofBits .f32 0x00000000#32 = 0 := by
  simp [Ideal.ofBits, Ideal.ieee, -EReal.coe_mul]
theorem ofBits_one : Ideal.ofBits .f32 0x3F800000#32 = ((1 : ℝ) : EReal) := by
  simp [Ideal.ofBits, Ideal.ieee, -EReal.coe_mul]; norm_num
theorem ofBits_fifteen : Ideal.ofBits .f32 0x41700000#32 = ((15 : ℝ) : EReal) := by
  simp [Ideal.ofBits, Ideal.ieee, -EReal.coe_mul]; norm_num
theorem ofBits_twenty : Ideal.ofBits .f32 0x41A00000#32 = ((20 : ℝ) : EReal) := by
  simp [Ideal.ofBits, Ideal.ieee, -EReal.coe_mul]; norm_num
theorem ofBits_inf : Ideal.ofBits .f32 0x7F800000#32 = ⊤ := by
  simp [Ideal.ofBits, Ideal.ieee]
theorem nodes_eq : nodes = ((4096 : ℝ) : EReal) := by
  unfold nodes; simp [Ideal.ofBits, Ideal.ieee, -EReal.coe_mul]; norm_num
theorem width_eq : width = ((5 / 4 : ℝ) : EReal) := by
  unfold width; simp [Ideal.ofBits, Ideal.ieee, -EReal.coe_mul]; norm_num
theorem eps_pos : ∃ e : ℝ, 0 < e ∧ eps = (e : EReal) := by
  refine ⟨11258999 * 2 ^ (-50 : ℤ), by positivity, ?_⟩
  unfold eps; simp [Ideal.ofBits, Ideal.ieee, -EReal.coe_mul]

/-! ### The layer -/

/-- The coordinates with the mean of the second atoms taken from all three atoms. -/
def cen {N : ℕ} (X : Fin N → Fin 9 → EReal) (r : Fin N) (m : Fin 9) : EReal :=
  X r m - Ideal.div (∑ s, X s ⟨3 + m.val % 3, by omega⟩) nodes

/-- The second atom's coordinates. -/
def second {N : ℕ} (X : Fin N → Fin 9 → EReal) (r : Fin N) (k : Fin 3) : EReal := X r ⟨3 + k.val, by omega⟩

section Protein

variable (h : Fin 512 → Fin 128 → EReal) (p : Fin 512 → Fin 3 → EReal) (wh : Fin 128 → Fin 128 → EReal)
  (we : Fin 272 → Fin 128 → EReal) (ws : Fin 128 → Fin 3 → EReal)

/-- The squared distance of two nodes, infinite for a node and itself. -/
def score (i j : Fin 512) : EReal := if i = j then ⊤ else ∑ k, (p i k - p j k) * (p i k - p j k)

/-- The `t`-th nearest node. -/
def nb (i : Fin 512) (t : Fin 16) : Fin 512 := order (score p i) ⟨t.val, by omega⟩

/-- The displacement to the `t`-th nearest node. -/
def dv (i : Fin 512) (t : Fin 16) (k : Fin 3) : EReal := p (nb p i t) k - p i k

/-- Its length. -/
def ds (i : Fin 512) (t : Fin 16) : EReal := Ideal.sqrt (∑ k, dv p i t k * dv p i t k)

/-- The length less a centre, over the width. -/
def off (i : Fin 512) (t : Fin 16) (q : Fin 16) : EReal := Ideal.div (ds p i t - mu q) width

/-- An edge's input features. -/
def feat (i : Fin 512) (t : Fin 16) (x : Fin 272) : EReal :=
  if h0 : x.val < 128 then h (nb p i t) ⟨x.val, h0⟩
  else if h1 : x.val - 128 < 128 then h i ⟨x.val - 128, h1⟩
  else Ideal.exp (-(off p i t ⟨x.val - 128 - 128, by omega⟩ * off p i t ⟨x.val - 128 - 128, by omega⟩))

/-- An edge's message. -/
def msg (i : Fin 512) (t : Fin 16) (c : Fin 128) : EReal := max (∑ x, feat h p i t x * we x c) 0

/-- The new features. -/
def newH (i : Fin 512) (c : Fin 128) : EReal := max ((∑ x, h i x * wh x c) + ∑ t, msg h p we i t c) 0

/-- An edge's weight for an atom. -/
def gate (i : Fin 512) (t : Fin 16) (a : Fin 3) : EReal := ∑ x, msg h p we i t x * ws x a

/-- The coordinate update. -/
def newD (i : Fin 512) (m : Fin 9) : EReal :=
  ∑ t, gate h p we ws i t ⟨m.val / 3, by omega⟩ * Ideal.div (dv p i t ⟨m.val % 3, by omega⟩) (ds p i t + eps)

end Protein

/-! ### Finite values -/

/-- The value is a real number. -/
def IsReal (x : EReal) : Prop := ∃ r : ℝ, x = (r : EReal)

namespace IsReal

variable {x y : EReal}

theorem add (hx : IsReal x) (hy : IsReal y) : IsReal (x + y) := by
  obtain ⟨a, rfl⟩ := hx; obtain ⟨b, rfl⟩ := hy; exact ⟨a + b, (EReal.coe_add a b).symm⟩
theorem sub (hx : IsReal x) (hy : IsReal y) : IsReal (x - y) := by
  obtain ⟨a, rfl⟩ := hx; obtain ⟨b, rfl⟩ := hy; exact ⟨a - b, (EReal.coe_sub a b).symm⟩
theorem mul (hx : IsReal x) (hy : IsReal y) : IsReal (x * y) := by
  obtain ⟨a, rfl⟩ := hx; obtain ⟨b, rfl⟩ := hy; exact ⟨a * b, (EReal.coe_mul a b).symm⟩
theorem neg (hx : IsReal x) : IsReal (-x) := by
  obtain ⟨a, rfl⟩ := hx; exact ⟨-a, (EReal.coe_neg a).symm⟩
theorem max (hx : IsReal x) (hy : IsReal y) : IsReal (max x y) := by
  rcases max_choice x y with h | h <;> rw [h] <;> assumption
theorem exp (hx : IsReal x) : IsReal (Ideal.exp x) := by
  obtain ⟨a, rfl⟩ := hx; exact ⟨Real.exp a, rfl⟩
theorem zero : IsReal 0 := ⟨0, rfl⟩
theorem sum {ι : Type} (s : Finset ι) {f : ι → EReal} (hf : ∀ i, IsReal (f i)) : IsReal (∑ i ∈ s, f i) := by
  classical
  induction s using Finset.induction_on with
  | empty => exact zero
  | insert a s ha ih => rw [Finset.sum_insert ha]; exact (hf a).add ih
theorem div (hx : IsReal x) {b : ℝ} (hb : b ≠ 0) : IsReal (Ideal.div x (b : EReal)) := by
  rw [Ideal.div_coe hb]; exact hx.mul ⟨_, rfl⟩
theorem lt_top (hx : IsReal x) : x < ⊤ := by obtain ⟨a, rfl⟩ := hx; exact EReal.coe_lt_top a
theorem sub_self (hx : IsReal x) : x - x = 0 := by
  obtain ⟨a, rfl⟩ := hx; rw [← EReal.coe_sub, _root_.sub_self]; rfl

end IsReal

theorem isReal_cen {N : ℕ} {X : Fin N → Fin 9 → EReal} (hX : ∀ r m, IsReal (X r m)) (r : Fin N) (m : Fin 9) :
    IsReal (cen X r m) := by
  unfold cen; rw [nodes_eq]; exact (hX _ _).sub ((IsReal.sum _ fun _ => hX _ _).div (by norm_num))

section Protein

variable {h : Fin 512 → Fin 128 → EReal} {p : Fin 512 → Fin 3 → EReal} {wh : Fin 128 → Fin 128 → EReal}
  {we : Fin 272 → Fin 128 → EReal} {ws : Fin 128 → Fin 3 → EReal}
  (hh : ∀ i c, IsReal (h i c)) (hp : ∀ i k, IsReal (p i k)) (hwh : ∀ i c, IsReal (wh i c))
  (hwe : ∀ i c, IsReal (we i c)) (hws : ∀ i c, IsReal (ws i c))
include hp

theorem isReal_dv (i t k) : IsReal (dv p i t k) := (hp _ _).sub (hp _ _)

theorem ds_nonneg (i t) : ∃ r : ℝ, 0 ≤ r ∧ ds p i t = (r : EReal) := by
  have hr := fun k => isReal_dv hp i t k
  choose f hf using hr
  have e : (∑ k, dv p i t k * dv p i t k) = ((∑ k, f k * f k : ℝ) : EReal) := by
    rw [Fin.sum_univ_three, Fin.sum_univ_three]; simp only [hf, EReal.coe_add, EReal.coe_mul]
  refine ⟨Real.sqrt (∑ k, f k * f k), Real.sqrt_nonneg _, ?_⟩
  unfold ds
  rw [e, Ideal.sqrt_coe, if_neg (not_lt.mpr (Finset.sum_nonneg fun k _ => mul_self_nonneg _))]

theorem isReal_off (i t q) : IsReal (off p i t q) := by
  obtain ⟨r, -, hr⟩ := ds_nonneg hp i t
  unfold off; rw [width_eq]
  exact (IsReal.sub ⟨r, hr⟩ ⟨_, rfl⟩).div (by norm_num)

/-- Distances of different nodes are finite. -/
theorem score_lt_top (i j : Fin 512) (hij : j ≠ i) : score p i j < ⊤ := by
  unfold score; rw [if_neg (Ne.symm hij)]
  exact (IsReal.sum _ fun _ => ((hp _ _).sub (hp _ _)).mul ((hp _ _).sub (hp _ _))).lt_top

include hh

theorem isReal_feat (i t x) : IsReal (feat h p i t x) := by
  unfold feat
  split
  · exact hh _ _
  split
  · exact hh _ _
  · exact ((isReal_off hp _ _ _).mul (isReal_off hp _ _ _)).neg.exp

include hwe

theorem isReal_msg (i t c) : IsReal (msg h p we i t c) :=
  (IsReal.sum _ fun _ => (isReal_feat hh hp _ _ _).mul (hwe _ _)).max IsReal.zero

include hwh in
theorem isReal_newH (i c) : IsReal (newH h p wh we i c) :=
  ((IsReal.sum _ fun _ => (hh _ _).mul (hwh _ _)).add (IsReal.sum _ fun _ => isReal_msg hh hp hwe _ _ _)).max IsReal.zero

include hws

theorem isReal_newD (i m) : IsReal (newD h p we ws i m) := by
  refine IsReal.sum _ fun t => (IsReal.sum _ fun _ => (isReal_msg hh hp hwe _ _ _).mul (hws _ _)).mul ?_
  obtain ⟨r, hr0, hr⟩ := ds_nonneg hp i t
  obtain ⟨e, he, hee⟩ := eps_pos
  rw [hr, hee, ← EReal.coe_add]
  exact (isReal_dv hp _ _ _).div (by positivity)

end Protein

end Cert.Knn

end
-- ==== Proof.KVal.lean ====
/- The kernel's layer read at an index: the picks are the stable order of the scores, the one-hot product is a row lookup,
   and a chunk's two results are the layer of `Spec`. -/
module

public import proofs.«01_k».proof.Proof.KLayer
public import proofs.«01_k».proof.Proof.Spec
public import Idealize.ShloMosaic.Lib.Pointwise

@[expose] public section

set_option maxRecDepth 16384

noncomputable section

namespace Cert.KernelIdeal.Lay

open Idealize.ShloMosaic Idealize.ShloMosaic.Pointwise Cert.KernelIdeal.Gen Cert.Knn

/-- The far constant is infinite. -/
theorem far_eq : Named.named (F := Ideal) (φ := .f32) Cert.KernelIdeal.κ "far" 0x501502F9#32 = (⊤ : EReal) :=
  IdealRules.named_const.ideal_named_scalar _ _ _ _ rfl

/-- The spacing of the centres is four thirds. -/
theorem step_eq : Named.named (F := Ideal) (φ := .f32) Cert.KernelIdeal.κ "rbf_step" 0x3FAAAAAB#32 = ((4 / 3 : ℝ) : EReal) :=
  IdealRules.named_const.ideal_named_scalar _ _ _ _ rfl

theorem ofNat_toInt (n : ℕ) (hn : n ≤ 512) : (BitVec.ofNat 32 n).toInt = n := by
  rw [BitVec.toInt_eq_toNat_of_lt] <;> simp only [BitVec.toNat_ofNat] <;> omega

theorem ofNat_inj (a b : Fin 512) : BitVec.ofNat 32 a.val = BitVec.ofNat 32 b.val ↔ a = b := by
  refine ⟨fun h => Fin.ext ?_, fun h => by rw [h]⟩
  have := congrArg BitVec.toInt h
  rw [ofNat_toInt _ (by omega), ofNat_toInt _ (by omega)] at this
  exact_mod_cast this

theorem minsi_toInt (a b : BitVec 32) : (IntOp.minsi a b).toInt = min a.toInt b.toInt := by
  unfold IntOp.minsi
  rw [BitVec.slt_eq_decide]
  split <;> rename_i h <;> simp at h <;> omega

section Pick

variable (s : FVec Ideal S512x512 .f32) (i : Fin 512)

theorem pick_apply (j : Fin 512) (hj : IsPick (fun x => s (ix2 i x)) j) : pick s (ix2 i 0) = BitVec.ofNat 32 j.val := by
  pointwise [pick, cols]
  have hmin : Finset.fold min (Ideal.ofBits .f32 2139095040#32) (fun x => s (ix2 i x)) Finset.univ = s (ix2 i j) := by
    rw [ofBits_inf]
    refine le_antisymm ?_ ?_
    · rw [Finset.fold_min_le]; exact Or.inr ⟨j, Finset.mem_univ _, le_rfl⟩
    · rw [Finset.le_fold_min]; exact ⟨le_top, fun k _ => hj.1 k⟩
  rw [hmin]
  apply BitVec.eq_of_toInt_eq
  rw [← Finset.fold_hom (op' := min) (m := BitVec.toInt) minsi_toInt, ofNat_toInt j.val (by omega)]
  refine le_antisymm ?_ ?_
  · rw [Finset.fold_min_le]
    refine Or.inr ⟨j, Finset.mem_univ _, ?_⟩
    rw [if_pos le_rfl, ofNat_toInt j.val (by omega)]
  · rw [Finset.le_fold_min]
    refine ⟨by have : (2147483647#32).toInt = 2147483647 := by decide
               omega, fun k _ => ?_⟩
    split
    · rename_i hk
      rw [ofNat_toInt k.val (by omega)]
      by_contra hlt
      exact absurd (hj.2 k (by rw [Fin.lt_def]; omega)) (not_lt.mpr hk)
    · have : (512#32).toInt = 512 := by decide
      omega

/-- After `n` rounds the first `n` places of the order are masked. -/
theorem round_apply (hf : ∀ j, j ≠ i → s (ix2 i j) < ⊤) (n : ℕ) (hn : n < 511) (j : Fin 512) :
    round s n (ix2 i j) = masked (fun x => s (ix2 i x)) n j := by
  induction n generalizing j with
  | zero => rw [masked_zero]; rfl
  | succ n ih =>
    have ih := fun j => ih (by omega) j
    have hp := isPick_masked (fun x => s (ix2 i x)) i hf ⟨n, by omega⟩ (by show n + 1 < 512; omega)
    have e : (fun x => round s n (ix2 i x)) = masked (fun x => s (ix2 i x)) n := funext ih
    have hq := pick_apply (round s n) i (order (fun x => s (ix2 i x)) ⟨n, by omega⟩) (by rw [e]; exact hp)
    have h2 := masked_succ (fun x => s (ix2 i x)) ⟨n, by omega⟩ j
    show mask (round s n) (ix2 i j) = masked _ (n + 1) j
    rw [show masked (fun x => s (ix2 i x)) (n + 1) j = _ from h2]
    pointwise [mask, cols]
    rw [hq, far_eq, ih j]
    by_cases hc : j = order (fun x => s (ix2 i x)) ⟨n, by omega⟩
    · rw [if_pos hc, ← hc]; simp [Scalar.select, IntOp.cmpi]
    · rw [if_neg hc]
      have : ¬ (BitVec.ofNat 32 j.val = BitVec.ofNat 32 (order (fun x => s (ix2 i x)) ⟨n, by omega⟩).val) :=
        fun h => hc ((ofNat_inj _ _).mp h)
      simp [Scalar.select, IntOp.cmpi, beq_eq_false_iff_ne.mpr this]

theorem sel_apply (hf : ∀ j, j ≠ i → s (ix2 i j) < ⊤) (n : ℕ) (hn : n < 511) :
    sel s n (ix2 i 0) = BitVec.ofNat 32 (order (fun x => s (ix2 i x)) ⟨n, by omega⟩).val := by
  refine pick_apply _ _ _ ?_
  rw [show (fun x => round s n (ix2 i x)) = masked (fun x => s (ix2 i x)) n from
    funext (round_apply s i hf n hn)]
  exact isPick_masked _ i hf ⟨n, by omega⟩ (by show n + 1 < 512; omega)

end Pick

/-- Sixteen blocks of 128 rows, one under the other. -/
def stack (f : Fin 16 → FVec Ideal S128x512 .f32) : FVec Ideal S2048x512 .f32 :=
  concatenate S2048x512 0 (List.ofFn fun t : Fin 16 => (⟨S128x512, f t⟩ : (s : Shape) × (s.Idx → Ideal .f32)))
    concatenates_S128x512_S128x512_S128x512_S128x512_S128x512_S128x512_S128x512_S128x512_S128x512_S128x512_S128x512_S128x512_S128x512_S128x512_S128x512_S128x512_S2048x512_d0

theorem stack_apply (f : Fin 16 → FVec Ideal S128x512 .f32) (t : Fin 16) (r : Fin 128) (j : Fin 512) :
    stack f (ix2 ⟨t.val * 128 + r.val, by omega⟩ j) = f t (ix2 r j) := by
  unfold stack
  refine Idealize.ShloMosaic.concatenate_ofFn_apply (s₁ := S128x512) (t := S2048x512) 0 f _ rfl 128 rfl _ t ?_ _ ?_ ?_
  · show (t.val * 128 + r.val) / 128 = t.val; omega
  · show r.val = (t.val * 128 + r.val) % 128; omega
  · intro b hb
    match b with
    | ⟨0, _⟩ => exact absurd rfl hb
    | ⟨1, _⟩ => rfl

theorem aggs (n : ℕ) (hn : n < 16) (x : FVec Ideal S16x128x128 .f32) (r c : Fin 128) :
    agg x n hn (ix2 r c) = ∑ t : Fin (n + 1), x (ix3 ⟨t.val, by omega⟩ r c) := by
  induction n with
  | zero => pointwise [agg]; rw [Fin.sum_univ_one]
  | succ n ih => pointwise [agg]; rw [ih, Fin.sum_univ_castSucc (n := n + 1)]; rfl

theorem daggs (n : ℕ) (hn : n < 16) (x : FVec Ideal S16x128x9 .f32) (r : Fin 128) (c : Fin 9) :
    dagg x n hn (ix2 r c) = ∑ t : Fin (n + 1), x (ix3 ⟨t.val, by omega⟩ r c) := by
  induction n with
  | zero => pointwise [dagg]; rw [Fin.sum_univ_one]
  | succ n ih => pointwise [dagg]; rw [ih, Fin.sum_univ_castSucc (n := n + 1)]; rfl

section Chunk

variable (o : ℕ) (ho : o + 128 ≤ 512)

theorem oneHot_apply (h1 : S512x1.Slices ![o, 0] S128x1) (v : IVec S512x1 32) (r : Fin 128) (q j : Fin 512)
    (hq : v (ix2 ⟨o + r.val, by omega⟩ 0) = BitVec.ofNat 32 q.val) :
    oneHot (F := Ideal) o h1 v (ix2 r j) = if q = j then (1 : EReal) else 0 := by
  pointwise [oneHot]
  rw [hq]
  by_cases hc : q = j
  · subst hc; rw [if_pos rfl]; simp [IntOp.cmpi]; show (((1#32).toInt : ℝ) : EReal) = 1; simp
  · have : ¬ (BitVec.ofNat 32 q.val = BitVec.ofNat 32 j.val) := fun h => hc ((ofNat_inj _ _).mp h)
    rw [if_neg hc]; simp [IntOp.cmpi, beq_eq_false_iff_ne.mpr this]; show (((0#32).toInt : ℝ) : EReal) = 0; simp

theorem gath_eq (h1 : S512x1.Slices ![o, 0] S128x1) (p : ℕ → IVec S512x1 32) (tb : FVec Ideal S512x137 .f32) :
    gath o h1 p tb = matmul dot_S2048x512_S512x137_S2048x137_1_0_0_1_n_n none (stack fun t => oneHot o h1 (p t.val)) tb
      (constant S2048x137 .f32 0x00000000#32) := rfl

theorem gath_apply (h1 : S512x1.Slices ![o, 0] S128x1) (p : ℕ → IVec S512x1 32) (tb : FVec Ideal S512x137 .f32)
    (t : Fin 16) (r : Fin 128) (q : Fin 512) (hq : p t.val (ix2 ⟨o + r.val, by omega⟩ 0) = BitVec.ofNat 32 q.val)
    (m : Fin 137) : gath o h1 p tb (ix2 ⟨t.val * 128 + r.val, by omega⟩ m) = tb (ix2 q m) := by
  rw [gath_eq]
  set g := stack fun t => oneHot o h1 (p t.val) with hg
  have key : ∀ R : Fin 2048, matmul dot_S2048x512_S512x137_S2048x137_1_0_0_1_n_n none g tb
      (constant S2048x137 .f32 0x00000000#32) (ix2 R m) = ∑ k : Fin 512, g (ix2 R k) * tb (ix2 k m) := by
    intro R
    clear_value g
    pointwise
  rw [key]
  have e : ∀ k, g (ix2 ⟨t.val * 128 + r.val, by omega⟩ k) * tb (ix2 k m) = if q = k then tb (ix2 k m) else 0 := by
    intro k
    rw [hg, stack_apply, oneHot_apply o ho h1 _ r q k hq, ite_mul, one_mul, zero_mul]
  rw [Finset.sum_congr rfl fun k _ => e k, Finset.sum_ite_eq, if_pos (Finset.mem_univ _)]

theorem dist_apply (d : FVec Ideal S2048x3 .f32) (R : Fin 2048) :
    dist d (ix2 R 0) = Ideal.sqrt (∑ x, d (ix2 R x) * d (ix2 R x)) := by
  pointwise [dist]

section Layer

variable (h : FVec Ideal S512x128 .f32) (pos : FVec Ideal S512x3 .f32) (g : FVec Ideal S2048x137 .f32)
  (hp : ∀ i k, IsReal (pos (ix2 i k)))
  (hg : ∀ (t : Fin 16) (r : Fin 128) (m : Fin 137), g (ix2 ⟨t.val * 128 + r.val, by omega⟩ m) =
    tbl pos h (ix2 (nb (fun i k => pos (ix2 i k)) ⟨o + r.val, by omega⟩ t) m))
include hg

theorem gath_h (t : Fin 16) (r : Fin 128) (x : Fin 137) (hx : x.val < 128) :
    g (ix2 ⟨t.val * 128 + r.val, by omega⟩ x) =
      h (ix2 (nb (fun i k => pos (ix2 i k)) ⟨o + r.val, by omega⟩ t) ⟨x.val, hx⟩) := by
  rw [hg]
  pointwise [tbl, k1_pay40]
  rw [dif_pos hx]

include hp

theorem dvec_apply (h3 : S512x3.Slices ![o, 0] S128x3) (t : Fin 16) (r : Fin 128) (k : Fin 3) :
    dvec o h3 pos g (ix2 ⟨t.val * 128 + r.val, by omega⟩ k) =
      dv (fun i k => pos (ix2 i k)) ⟨o + r.val, by omega⟩ t k := by
  have e : ∀ (a b c : Fin 137), a.val = 128 + k.val → b.val = 131 + k.val → c.val = 134 + k.val →
      g (ix2 ⟨t.val * 128 + r.val, by omega⟩ a) + g (ix2 ⟨t.val * 128 + r.val, by omega⟩ b)
        + g (ix2 ⟨t.val * 128 + r.val, by omega⟩ c) =
      pos (ix2 (nb (fun i k => pos (ix2 i k)) ⟨o + r.val, by omega⟩ t) k) := by
    intro a b c ha hb hc
    rw [hg, hg, hg]
    generalize nb _ _ t = q
    have z := (hp q k).sub_self
    have hk := k.isLt
    have e0 : tbl pos h (ix2 q a) = pos (ix2 q k) := by
      pointwise [tbl, k1_pay40]
      rw [dif_neg (show ¬ a.val < 128 by omega), dif_pos (show a.val - 128 < 3 by omega)]
      exact congrArg (fun x => pos (ix2 q x)) (Fin.ext (by show a.val - 128 = k.val; omega))
    have e1 : tbl pos h (ix2 q b) = pos (ix2 q k) - pos (ix2 q k) := by
      pointwise [tbl, k1_pay40]
      rw [dif_neg (show ¬ b.val < 128 by omega), dif_neg (show ¬ b.val - 128 < 3 by omega),
        dif_pos (show b.val - 128 - 3 < 3 by omega)]
      exact congrArg (fun x => pos (ix2 q x) - pos (ix2 q x)) (Fin.ext (by show b.val - 128 - 3 = k.val; omega))
    have e2 : tbl pos h (ix2 q c) = pos (ix2 q k) - pos (ix2 q k) - (pos (ix2 q k) - pos (ix2 q k)) := by
      pointwise [tbl, k1_pay40]
      rw [dif_neg (show ¬ c.val < 128 by omega), dif_neg (show ¬ c.val - 128 < 3 by omega),
        dif_neg (show ¬ c.val - 128 - 3 < 3 by omega)]
      exact congrArg (fun x => pos (ix2 q x) - pos (ix2 q x) - (pos (ix2 q x) - pos (ix2 q x)))
        (Fin.ext (by show c.val - 128 - 3 - 3 = k.val; omega))
    rw [e0, e1, e2, z]
    simp
  pointwise [dvec]
  rw [e _ _ _ rfl rfl rfl]
  rfl

theorem dist_eq (h3 : S512x3.Slices ![o, 0] S128x3) (t : Fin 16) (r : Fin 128) :
    dist (dvec o h3 pos g) (ix2 ⟨t.val * 128 + r.val, by omega⟩ 0) =
      ds (fun i k => pos (ix2 i k)) ⟨o + r.val, by omega⟩ t := by
  rw [dist_apply]
  simp only [dvec_apply o ho h pos g hp hg]
  rfl

theorem msg_apply (h3 : S512x3.Slices ![o, 0] S128x3) (hh : S512x128.Slices ![o, 0] S128x128)
    (we : FVec Ideal S272x128 .f32) (t : Fin 16) (r : Fin 128) (c : Fin 128) :
    Lay.msg o hh h g (dist (dvec o h3 pos g)) we (ix2 ⟨t.val * 128 + r.val, by omega⟩ c) =
      Knn.msg (fun i c => h (ix2 i c)) (fun i k => pos (ix2 i k)) (fun x c => we (ix2 x c)) ⟨o + r.val, by omega⟩ t c := by
  have hd := dist_eq o ho h pos g hp hg h3 t r
  generalize dist (dvec o h3 pos g) = D at hd
  pointwise [Lay.msg, k1_pay41]
  unfold Knn.msg
  congr 1
  refine Finset.sum_congr rfl fun x _ => ?_
  congr 1
  unfold feat
  by_cases h0 : x.val < 128
  · rw [dif_pos h0, dif_pos h0]
    exact gath_h o ho h pos g hg t r ⟨x.val, by omega⟩ h0
  rw [dif_neg h0, dif_neg h0]
  by_cases h1 : x.val - 128 < 128
  · rw [dif_pos h1, dif_pos h1]
  rw [dif_neg h1, dif_neg h1, hd]
  have hm : FloatOps.sitofp (F := Ideal) FTy.f32 (BitVec.ofNat 32 (x.val - 128 - 128))
      * Named.named (F := Ideal) (φ := .f32) Cert.KernelIdeal.κ "rbf_step" 0x3FAAAAAB#32
      = mu ⟨x.val - 128 - 128, by omega⟩ := by
    rw [step_eq, show FloatOps.sitofp (F := Ideal) FTy.f32 (BitVec.ofNat 32 (x.val - 128 - 128)) =
      (((BitVec.ofNat 32 (x.val - 128 - 128)).toInt : ℝ) : EReal) from rfl, ofNat_toInt _ (by omega)]
    unfold mu
    rw [EReal.coe_mul]
    rfl
  rw [hm, zero_sub]
  rfl

/-- A chunk's features. -/
theorem chunkH_apply (h3 : S512x3.Slices ![o, 0] S128x3) (hh : S512x128.Slices ![o, 0] S128x128)
    (wh : FVec Ideal S128x128 .f32) (we : FVec Ideal S272x128 .f32) (r : Fin 128) (c : Fin 128) :
    chunkH o hh (k1_pay39 h wh) (Lay.msg o hh h g (dist (dvec o h3 pos g)) we) (ix2 r c) =
      newH (fun i c => h (ix2 i c)) (fun i k => pos (ix2 i k)) (fun x c => wh (ix2 x c)) (fun x c => we (ix2 x c))
        ⟨o + r.val, by omega⟩ c := by
  have hm := fun t => msg_apply o ho h pos g hp hg h3 hh we t r c
  generalize Lay.msg o hh h g (dist (dvec o h3 pos g)) we = M at hm
  pointwise [chunkH, k1_pay39]
  rw [aggs]
  unfold newH
  congr 2
  refine Finset.sum_congr rfl fun t _ => ?_
  pointwise
  exact hm t

/-- A chunk's coordinates. -/
theorem chunkX_apply (h3 : S512x3.Slices ![o, 0] S128x3) (hh : S512x128.Slices ![o, 0] S128x128)
    (h9 : S512x9.Slices ![o, 0] S128x9) (cb : FVec Ideal S512x9 .f32)
    (we : FVec Ideal S272x128 .f32) (ws : FVec Ideal S128x3 .f32) (r : Fin 128) (m : Fin 9) :
    chunkX o h9 cb (dvec o h3 pos g) (dist (dvec o h3 pos g)) (Lay.msg o hh h g (dist (dvec o h3 pos g)) we) ws (ix2 r m) =
      cb (ix2 ⟨o + r.val, by omega⟩ m) +
      newD (fun i c => h (ix2 i c)) (fun i k => pos (ix2 i k)) (fun x c => we (ix2 x c)) (fun x c => ws (ix2 x c))
        ⟨o + r.val, by omega⟩ m := by
  have hm := fun t => msg_apply o ho h pos g hp hg h3 hh we t r
  have hd := fun t => dist_eq o ho h pos g hp hg h3 t r
  have hv := fun t => dvec_apply o ho h pos g hp hg h3 t r
  generalize Lay.msg o hh h g (dist (dvec o h3 pos g)) we = M at hm
  generalize dist (dvec o h3 pos g) = D at hd
  generalize dvec o h3 pos g = V at hv
  pointwise [chunkX]
  rw [daggs]
  congr 1
  unfold newD gate
  refine Finset.sum_congr rfl fun t _ => ?_
  pointwise [k1_pay59]
  simp only [hm, hd, hv]
  fin_cases m <;> rfl

end Layer

end Chunk

end Cert.KernelIdeal.Lay

end
-- ==== Proof.KBlock.lean ====
/- The two blocks a layer region stores, read at an index: the layer of `Spec` at the block's nodes. -/
module

public import proofs.«01_k».proof.Proof.KLayerEq
public import proofs.«01_k».proof.Proof.KVal

@[expose] public section

set_option maxRecDepth 16384

noncomputable section

namespace Cert.KernelIdeal.Lay

open Idealize.ShloMosaic Idealize.ShloMosaic.Pointwise Cert.KernelIdeal.Gen Cert.Knn

variable (v0 : FVec Ideal S4096x9 .f32) (v8 : FVec Ideal S512x9 .f32)

/-- The mean of the second atoms over all the nodes. -/
def mean (v0 : FVec Ideal S4096x9 .f32) (k : Fin 3) : EReal := Ideal.div (∑ s, v0 (ix2 s ⟨3 + k.val, by omega⟩)) nodes

theorem cb_apply (i : Fin 512) (m : Fin 9) :
    k1_pay3 (F := Ideal) v0 v8 (ix2 i m) = v8 (ix2 i m) - mean v0 ⟨m.val % 3, by omega⟩ := by
  pointwise [k1_pay3]
  fin_cases m <;> rfl

theorem pos_apply (i : Fin 512) (k : Fin 3) :
    k1_pay4 (F := Ideal) v0 v8 (ix2 i k) = v8 (ix2 i ⟨3 + k.val, by omega⟩) - mean v0 k := by
  pointwise [k1_pay4]
  rw [cb_apply]
  exact congrArg (fun x => v8 (ix2 i ⟨3 + k.val, by omega⟩) - mean v0 x) (Fin.ext (by show (3 + k.val) % 3 = k.val; omega))

theorem score_apply (i j : Fin 512) :
    k1_pay5 (F := Ideal) v0 v8 (ix2 i j) = score (fun i k => k1_pay4 (F := Ideal) v0 v8 (ix2 i k)) i j := by
  pointwise [k1_pay5]
  rw [far_eq]
  unfold score
  rw [Fin.sum_univ_three]
  by_cases hc : i = j
  · rw [if_pos hc, hc]; simp [Scalar.select, IntOp.cmpi]
  · have : ¬ (BitVec.ofNat 32 i.val = BitVec.ofNat 32 j.val) := fun h => hc ((ofNat_inj _ _).mp h)
    rw [if_neg hc]; simp [Scalar.select, IntOp.cmpi, beq_eq_false_iff_ne.mpr this]

section Block

variable (h : FVec Ideal S512x128 .f32) (x1 : FVec Ideal S512x9 .f32) (x2 : FVec Ideal S4096x9 .f32)
  (x3 : FVec Ideal S128x128 .f32) (x4 : FVec Ideal S272x128 .f32) (x5 : FVec Ideal S128x3 .f32)

/-- The block's centred coordinates, from the block and from all the coordinates. -/
def bcen (i : Fin 512) (m : Fin 9) : EReal := x1 (ix2 i m) - mean x2 ⟨m.val % 3, by omega⟩

theorem zero2 (f : Fin 2 → ℕ) (h0 : f 0 = 0) (h1 : f 1 = 0) : f = fun _ => 0 := by
  funext a; match a with
  | ⟨0, _⟩ => exact h0
  | ⟨1, _⟩ => exact h1

theorem cbK_apply (i : Fin 512) (m : Fin 9) : cbK (F := Ideal) x1 x2 (ix2 i m) = bcen x1 x2 i m := by
  unfold cbK bcen
  rw [View.ld_unit_zero (zero2 _ rfl rfl), View.ld_unit_zero (zero2 _ rfl rfl), cb_apply]

theorem posK_apply (i : Fin 512) (k : Fin 3) : posK (F := Ideal) x1 x2 (ix2 i k) = second (bcen x1 x2) i k := by
  unfold posK second bcen
  rw [View.ld_unit_zero (zero2 _ rfl rfl), View.ld_unit_zero (zero2 _ rfl rfl), pos_apply]
  exact congrArg (fun x => x1 (ix2 i ⟨3 + k.val, by omega⟩) - mean x2 x) (Fin.ext (by show k.val = (3 + k.val) % 3; omega))

theorem scoreK_apply (i j : Fin 512) :
    scoreK (F := Ideal) x1 x2 (ix2 i j) = score (fun i k => posK (F := Ideal) x1 x2 (ix2 i k)) i j := by
  unfold scoreK posK
  exact score_apply _ _ i j

variable (hp : ∀ i k, IsReal (second (bcen x1 x2) i k))
include hp

theorem posK_real (i : Fin 512) (k : Fin 3) : IsReal (posK (F := Ideal) x1 x2 (ix2 i k)) := by
  rw [posK_apply]; exact hp i k

theorem gathK_apply (o : ℕ) (ho : o + 128 ≤ 512) (h1 : S512x1.Slices ![o, 0] S128x1) (t : Fin 16) (r : Fin 128)
    (m : Fin 137) : gathK (F := Ideal) h x1 x2 o h1 (ix2 ⟨t.val * 128 + r.val, by omega⟩ m) =
      tbl (posK (F := Ideal) x1 x2) h
        (ix2 (nb (fun i k => posK (F := Ideal) x1 x2 (ix2 i k)) ⟨o + r.val, by omega⟩ t) m) := by
  unfold gathK
  refine gath_apply o ho h1 _ _ t r _ ?_ m
  rw [sel_apply _ _ (fun j hj => ?_) _ (by omega)]
  · simp only [scoreK_apply]; rfl
  · rw [scoreK_apply]; exact score_lt_top (posK_real x1 x2 hp) _ _ hj

theorem hPiece_apply (o : ℕ) (ho : o + 128 ≤ 512) (h1 : S512x1.Slices ![o, 0] S128x1) (h3 : S512x3.Slices ![o, 0] S128x3)
    (hh : S512x128.Slices ![o, 0] S128x128) (r c : Fin 128) :
    hPiece (F := Ideal) h x1 x2 x3 x4 o h1 h3 hh (ix2 r c) =
      newH (fun i c => h (ix2 i c)) (second (bcen x1 x2)) (fun x c => x3 (ix2 x c)) (fun x c => x4 (ix2 x c))
        ⟨o + r.val, by omega⟩ c := by
  unfold hPiece hwhK msgK distK dvecK
  rw [View.ld_unit_zero (zero2 _ rfl rfl), View.ld_unit_zero (zero2 _ rfl rfl),
    chunkH_apply o ho h _ _ (posK_real x1 x2 hp) (gathK_apply h x1 x2 hp o ho h1) h3 hh]
  simp only [posK_apply]

theorem xPiece_apply (o : ℕ) (ho : o + 128 ≤ 512) (h1 : S512x1.Slices ![o, 0] S128x1) (h3 : S512x3.Slices ![o, 0] S128x3)
    (hh : S512x128.Slices ![o, 0] S128x128) (h9 : S512x9.Slices ![o, 0] S128x9) (r : Fin 128) (m : Fin 9) :
    xPiece (F := Ideal) h x1 x2 x4 x5 o h1 h3 hh h9 (ix2 r m) =
      bcen x1 x2 ⟨o + r.val, by omega⟩ m +
      newD (fun i c => h (ix2 i c)) (second (bcen x1 x2)) (fun x c => x4 (ix2 x c)) (fun x c => x5 (ix2 x c))
        ⟨o + r.val, by omega⟩ m := by
  unfold xPiece msgK distK dvecK
  rw [View.ld_unit_zero (zero2 _ rfl rfl), View.ld_unit_zero (zero2 _ rfl rfl),
    chunkX_apply o ho h _ _ (posK_real x1 x2 hp) (gathK_apply h x1 x2 hp o ho h1) h3 hh h9, cbK_apply]
  simp only [posK_apply]

omit hp in
/-- Row `r` of the chunk at row `o` is row `o + r` of the block. -/
theorem chunkRow {M : ℕ} (o : ℕ) (ho : o + 128 ≤ 512)
    (inb : ∀ a, (![o, 0] : Fin 2 → ℕ) a + (⟨2, ![128, M]⟩ : Shape).size a ≤ (⟨2, ![512, M]⟩ : Shape).size a)
    (r : Fin 128) (c : Fin M) :
    (Rect.unit (s := ⟨2, ![512, M]⟩) ![o, 0] (⟨2, ![128, M]⟩ : Shape).size inb).emb (ix2 r c) =
      ix2 ⟨o + r.val, by omega⟩ c := by
  funext a
  match a with
  | ⟨0, _⟩ => exact Fin.ext (by show o + 1 * r.val = o + r.val; omega)
  | ⟨1, _⟩ => exact Fin.ext (by show 0 + 1 * c.val = c.val; omega)

/-- The features block a layer region stores. -/
theorem lay6_apply (i : Fin 512) (c : Fin 128) : lay6 (F := Ideal) h x1 x2 x3 x4 (ix2 i c) =
    newH (fun i c => h (ix2 i c)) (second (bcen x1 x2)) (fun x c => x3 (ix2 x c)) (fun x c => x4 (ix2 x c)) i c := by
  unfold lay6
  refine View.canon_apply_of_pieces (Val := Elt Ideal) (S := S512x128) (e := .f32)
    (fun y => newH (fun i c => h (ix2 i c)) (second (bcen x1 x2)) (fun x c => x3 (ix2 x c)) (fun x c => x4 (ix2 x c))
      (y 0) (y 1)) _ ?_ (ix2 i c) (cover1_6 _ _ _ _ _)
  have key : ∀ (o : ℕ) (ho : o + 128 ≤ 512) (inb) (h1) (h3) (hh) (x : S128x128.Idx),
      hPiece (F := Ideal) h x1 x2 x3 x4 o h1 h3 hh x =
      (fun y : S512x128.Idx => newH (fun i c => h (ix2 i c)) (second (bcen x1 x2)) (fun x c => x3 (ix2 x c))
        (fun x c => x4 (ix2 x c)) (y 0) (y 1)) ((Rect.unit (s := S512x128) ![o, 0] S128x128.size inb).emb x) := by
    intro o ho inb h1 h3 hh x
    obtain ⟨r, c, rfl⟩ : ∃ (r c : Fin 128), x = ix2 r c := ⟨x 0, x 1, (ix2_eta x).symm⟩
    rw [hPiece_apply h x1 x2 x3 x4 hp o ho h1 h3 hh r c, chunkRow o ho inb r c]
    rfl
  intro p hpm
  simp only [List.mem_cons, List.not_mem_nil, or_false] at hpm
  rcases hpm with rfl | rfl | rfl | rfl
  · exact key 384 (by decide) inb_S512x128_S128x128_384_0 _ _ _
  · exact key 256 (by decide) inb_S512x128_S128x128_256_0 _ _ _
  · exact key 128 (by decide) inb_S512x128_S128x128_128_0 _ _ _
  · exact key 0 (by decide) inb_S512x128_S128x128_0_0 _ _ _

/-- The coordinates block a layer region stores. -/
theorem lay7_apply (i : Fin 512) (m : Fin 9) : lay7 (F := Ideal) h x1 x2 x4 x5 (ix2 i m) =
    bcen x1 x2 i m +
    newD (fun i c => h (ix2 i c)) (second (bcen x1 x2)) (fun x c => x4 (ix2 x c)) (fun x c => x5 (ix2 x c)) i m := by
  unfold lay7
  refine View.canon_apply_of_pieces (Val := Elt Ideal) (S := S512x9) (e := .f32)
    (fun y => bcen x1 x2 (y 0) (y 1) + newD (fun i c => h (ix2 i c)) (second (bcen x1 x2)) (fun x c => x4 (ix2 x c))
      (fun x c => x5 (ix2 x c)) (y 0) (y 1)) _ ?_ (ix2 i m) (cover1_7 _ _ _ _ _)
  have key : ∀ (o : ℕ) (ho : o + 128 ≤ 512) (inb) (h1) (h3) (hh) (h9) (x : S128x9.Idx),
      xPiece (F := Ideal) h x1 x2 x4 x5 o h1 h3 hh h9 x =
      (fun y : S512x9.Idx => bcen x1 x2 (y 0) (y 1) + newD (fun i c => h (ix2 i c)) (second (bcen x1 x2))
        (fun x c => x4 (ix2 x c)) (fun x c => x5 (ix2 x c)) (y 0) (y 1))
        ((Rect.unit (s := S512x9) ![o, 0] S128x9.size inb).emb x) := by
    intro o ho inb h1 h3 hh h9 x
    obtain ⟨r, m, rfl⟩ : ∃ (r : Fin 128) (m : Fin 9), x = ix2 r m := ⟨x 0, x 1, (ix2_eta x).symm⟩
    rw [xPiece_apply h x1 x2 x4 x5 hp o ho h1 h3 hh h9 r m, chunkRow o ho inb r m]
    rfl
  intro p hpm
  simp only [List.mem_cons, List.not_mem_nil, or_false] at hpm
  rcases hpm with rfl | rfl | rfl | rfl
  · exact key 384 (by decide) inb_S512x9_S128x9_384_0 _ _ _ _
  · exact key 256 (by decide) inb_S512x9_S128x9_256_0 _ _ _ _
  · exact key 128 (by decide) inb_S512x9_S128x9_128_0 _ _ _ _
  · exact key 0 (by decide) inb_S512x9_S128x9_0_0 _ _ _ _

end Block

end Cert.KernelIdeal.Lay

end
-- ==== Proof.Net.lean ====
/- The whole network over the eight proteins, in the words of `Spec`: one layer at a row of the stacked arrays, the first
   coordinates, and the output. -/
module

public import proofs.«01_k».proof.Proof.Spec

@[expose] public section

set_option maxRecDepth 16384

noncomputable section

namespace Cert.Knn

open Idealize.ShloMosaic

/-- Node `i` of protein `b`, as a row of the stacked arrays. -/
abbrev row (b : Fin 8) (i : Fin 512) : Fin 4096 := ⟨b.val * 512 + i.val, by omega⟩
/-- The protein of a row, and the node of a row in its protein. -/
abbrev prot (r : Fin 4096) : Fin 8 := ⟨r.val / 512, by omega⟩
abbrev node (r : Fin 4096) : Fin 512 := ⟨r.val % 512, by omega⟩

theorem prot_row (b : Fin 8) (i : Fin 512) : prot (row b i) = b := Fin.ext (by simp only; omega)
theorem node_row (b : Fin 8) (i : Fin 512) : node (row b i) = i := Fin.ext (by simp only; omega)
theorem row_prot_node (r : Fin 4096) : row (prot r) (node r) = r := Fin.ext (by simp only; omega)

variable (H : Fin 4096 → Fin 128 → EReal) (X : Fin 4096 → Fin 9 → EReal)
  (wh : Fin 128 → Fin 128 → EReal) (we : Fin 272 → Fin 128 → EReal) (ws : Fin 128 → Fin 3 → EReal)

/-- The features of protein `b`, and its centred second atoms. -/
def hOf (b : Fin 8) (i : Fin 512) (c : Fin 128) : EReal := H (row b i) c
def pOf (b : Fin 8) (i : Fin 512) (k : Fin 3) : EReal := cen X (row b i) ⟨3 + k.val, by omega⟩

/-- One layer's new features and new coordinates. -/
def layerH (r : Fin 4096) (c : Fin 128) : EReal := newH (hOf H (prot r)) (pOf X (prot r)) wh we (node r) c
def layerX (r : Fin 4096) (m : Fin 9) : EReal :=
  cen X r m + newD (hOf H (prot r)) (pOf X (prot r)) we ws (node r) m

/-- The first coordinates, from the features. -/
def init (W : Fin 128 → Fin 9 → EReal) (r : Fin 4096) (m : Fin 9) : EReal := ∑ c, H r c * W c m

/-- The output's coordinates, centred and scaled. -/
def output (r : Fin 4096) (m : Fin 9) : EReal := cen X r m * scale

variable {H X wh we ws}

theorem isReal_pOf (hX : ∀ r m, IsReal (X r m)) (b : Fin 8) (i : Fin 512) (k : Fin 3) : IsReal (pOf X b i k) :=
  isReal_cen hX _ _

theorem isReal_layerH (hH : ∀ r c, IsReal (H r c)) (hX : ∀ r m, IsReal (X r m)) (hwh : ∀ x c, IsReal (wh x c))
    (hwe : ∀ x c, IsReal (we x c)) (r : Fin 4096) (c : Fin 128) : IsReal (layerH H X wh we r c) :=
  isReal_newH (fun _ _ => hH _ _) (isReal_pOf hX _) hwh hwe _ _

theorem isReal_layerX (hH : ∀ r c, IsReal (H r c)) (hX : ∀ r m, IsReal (X r m)) (hwe : ∀ x c, IsReal (we x c))
    (hws : ∀ x c, IsReal (ws x c)) (r : Fin 4096) (m : Fin 9) : IsReal (layerX H X we ws r m) :=
  (isReal_cen hX _ _).add (isReal_newD (fun _ _ => hH _ _) (isReal_pOf hX _) hwe hws _ _)

theorem isReal_init {W : Fin 128 → Fin 9 → EReal} (hH : ∀ r c, IsReal (H r c)) (hW : ∀ c m, IsReal (W c m))
    (r : Fin 4096) (m : Fin 9) : IsReal (init H W r m) :=
  IsReal.sum _ fun c => (hH r c).mul (hW c m)

/-! ## The three layers -/

section Net

variable (H : Fin 4096 → Fin 128 → EReal) (W : Fin 128 → Fin 9 → EReal) (wh : Fin 3 → Fin 128 → Fin 128 → EReal)
  (we : Fin 3 → Fin 272 → Fin 128 → EReal) (ws : Fin 3 → Fin 128 → Fin 3 → EReal)

/-- The coordinates each layer starts from, the features after the first and the second layer, and the result. -/
def x1 : Fin 4096 → Fin 9 → EReal := init H W
def h2 : Fin 4096 → Fin 128 → EReal := layerH H (x1 H W) (wh 0) (we 0)
def x2 : Fin 4096 → Fin 9 → EReal := layerX H (x1 H W) (we 0) (ws 0)
def h3 : Fin 4096 → Fin 128 → EReal := layerH (h2 H W wh we) (x2 H W we ws) (wh 1) (we 1)
def x3 : Fin 4096 → Fin 9 → EReal := layerX (h2 H W wh we) (x2 H W we ws) (we 1) (ws 1)
def x4 : Fin 4096 → Fin 9 → EReal := layerX (h3 H W wh we ws) (x3 H W wh we ws) (we 2) (ws 2)
def net : Fin 4096 → Fin 9 → EReal := output (x4 H W wh we ws)

/-- Every input that reaches the coordinates of the third layer is a real number. -/
structure Finite : Prop where
  hH : ∀ r c, IsReal (H r c)
  hW : ∀ c m, IsReal (W c m)
  hwh : ∀ x c, IsReal (wh 0 x c)
  hwe : ∀ l : Fin 3, l ≠ 2 → ∀ x c, IsReal (we l x c)
  hws : ∀ l : Fin 3, l ≠ 2 → ∀ x c, IsReal (ws l x c)

variable {H W wh we ws}
variable (h : Finite H W wh we ws)
include h

theorem Finite.x1 (r m) : IsReal (x1 H W r m) := isReal_init h.hH h.hW r m
theorem Finite.h2 (r c) : IsReal (h2 H W wh we r c) :=
  isReal_layerH h.hH h.x1 h.hwh (h.hwe 0 (by decide)) r c
theorem Finite.x2 (r m) : IsReal (x2 H W we ws r m) :=
  isReal_layerX h.hH h.x1 (h.hwe 0 (by decide)) (h.hws 0 (by decide)) r m
theorem Finite.x3 (r m) : IsReal (x3 H W wh we ws r m) :=
  isReal_layerX h.h2 h.x2 (h.hwe 1 (by decide)) (h.hws 1 (by decide)) r m

end Net

end Cert.Knn

end
-- ==== Proof.KRegion.lean ====
/- Each kernel region's output arrays, from its input arrays' contents at entry: the network's layer at every row. -/
module

public import proofs.«01_k».proof.Proof.KBlock
public import proofs.«01_k».proof.Proof.Gen.KernelIdeal.Frame
public import proofs.«01_k».proof.Proof.Net
public import Idealize.ShloMosaic.Lib.Pipeline.ValueKit

@[expose] public section

set_option maxRecDepth 16384

noncomputable section

namespace Cert.KernelIdeal.Lay

open Idealize.ShloMosaic Idealize.ShloMosaic.TcCoe Idealize.ShloMosaic.Pointwise Cert.KernelIdeal.Gen Cert.Knn

/-- A two-axis array as a function of its row and column. -/
abbrev mat {N M : ℕ} (X : FVec Ideal ⟨2, ![N, M]⟩ .f32) (r : Fin N) (c : Fin M) : EReal := X (ix2 r c)

section Block

variable {h : FVec Ideal S512x128 .f32} {x1 : FVec Ideal S512x9 .f32} {x2 : FVec Ideal S4096x9 .f32}
  {x3 : FVec Ideal S128x128 .f32} {x4 : FVec Ideal S272x128 .f32} {x5 : FVec Ideal S128x3 .f32}
  {H : Fin 4096 → Fin 128 → EReal} {b : Fin 8}
  (hh : ∀ i c, h (ix2 i c) = H (row b i) c) (h1 : ∀ i m, x1 (ix2 i m) = x2 (ix2 (row b i) m))

include h1 in
theorem bcen_row (i : Fin 512) (m : Fin 9) : bcen x1 x2 i m = cen (mat x2) (row b i) m := by
  unfold bcen cen mean; rw [h1]

include h1 in
theorem second_row : second (bcen x1 x2) = pOf (mat x2) b := by
  funext i k; exact bcen_row h1 i _

variable (hX : ∀ r m, IsReal (x2 (ix2 r m)))

include hh h1 hX

theorem block6 (i : Fin 512) (c : Fin 128) :
    lay6 (F := Ideal) h x1 x2 x3 x4 (ix2 i c) = layerH H (mat x2) (mat x3) (mat x4) (row b i) c := by
  rw [lay6_apply h x1 x2 x3 x4 (by rw [second_row h1]; exact isReal_pOf hX b), second_row h1]
  unfold layerH
  rw [prot_row, node_row]
  exact congrArg (fun f => newH f _ _ _ i c) (funext fun i => funext fun c => hh i c)

theorem block7 (i : Fin 512) (m : Fin 9) :
    lay7 (F := Ideal) h x1 x2 x4 x5 (ix2 i m) = layerX H (mat x2) (mat x4) (mat x5) (row b i) m := by
  rw [lay7_apply h x1 x2 x4 x5 (by rw [second_row h1]; exact isReal_pOf hX b), second_row h1, bcen_row h1]
  unfold layerX
  rw [prot_row, node_row]
  exact congrArg (fun f => _ + newD f _ _ _ i m) (funext fun i => funext fun c => hh i c)

end Block

variable (V : (c : Dev nD) → (b : Ref sig .tc) → Buf (Elt Ideal) ((c : Thread nD τ).loc b))

theorem ld_h (X : FVec Ideal S512x128 .f32) : View.ld (Val := Elt Ideal) (e' := .f32) X r1_2 = X :=
  View.ld_unit_zero (zero2 _ rfl rfl) _ _

/-! ## Region 1 -/

theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![t.val, 0] := (by decide +kernel : ∀ t : Fin grid1.N, _)

theorem b1_0 (c : Dev nD) (t : Fin cfg1.N) (b : Fin 8) (hb : b.val = t.val) (i : Fin 512) (k : Fin 128) :
    iblk1 V c 0 t (ix2 i k) = V c main_arg0 (ix2 (row b i) k) := by
  blk_ext [iblk1, idx1_0]
theorem b1_1 (c : Dev nD) (t : Fin cfg1.N) (b : Fin 8) (hb : b.val = t.val) (i : Fin 512) (k : Fin 9) :
    iblk1 V c 1 t (ix2 i k) = V c main_v0 (ix2 (row b i) k) := by
  blk_ext [iblk1, idx1_1]
theorem b1_2 (c : Dev nD) (t : Fin cfg1.N) : iblk1 V c 2 t = V c main_v0 := by
  funext y; blk_ext [iblk1, idx1_2]
theorem b1_3 (c : Dev nD) (t : Fin cfg1.N) : iblk1 V c 3 t = V c main_v2 := by
  funext y; blk_ext [iblk1, idx1_3]
theorem b1_4 (c : Dev nD) (t : Fin cfg1.N) : iblk1 V c 4 t = V c main_v4 := by
  funext y; blk_ext [iblk1, idx1_4]
theorem b1_5 (c : Dev nD) (t : Fin cfg1.N) : iblk1 V c 5 t = V c main_v6 := by
  funext y; blk_ext [iblk1, idx1_5]

theorem h1_eq (c : Dev nD) (t : Fin cfg1.N) (b : Fin 8) (hb : b.val = t.val) (i : Fin 512) (k : Fin 128) :
    (View.ld (iblk1 V c 0 t) r1_2) (ix2 i k) = mat (V c main_arg0) (row b i) k :=
  (congrFun (ld_h _) _).trans (b1_0 V c t b hb i k)

theorem arr1_6 (c : Dev nD) (hX : ∀ r m, IsReal (V c main_v0 (ix2 r m))) :
    (dat1 V c).arrAt 6 cfg1.N = fun j : S4096x128.Idx =>
      layerH (mat (V c main_arg0)) (mat (V c main_v0)) (mat (V c main_v2)) (mat (V c main_v4)) (j 0) (j 1) := by
  refine (dat1 V c).arrAt_eq_of_covers 6 _ (by decide +kernel) fun t hf y => ?_
  obtain ⟨i, k, rfl⟩ : ∃ (i : Fin 512) (k : Fin 128), y = ix2 i k := ⟨y 0, y 1, (ix2_eta y).symm⟩
  obtain ⟨b, hb⟩ : ∃ b : Fin 8, b.val = t.val := ⟨⟨t.val, t.isLt⟩, rfl⟩
  have e : (win1_6.blk t).view.emb (ix2 i k) = (ix2 (row b i) k : S4096x128.Idx) := by blk_ext [idx1_6]
  blk_simp
  rw [after1_6, out1_6_eq, b1_2, b1_3, b1_4]
  refine (block6 (h1_eq V c t b hb) (b1_1 V c t b hb) hX i k).trans ?_
  rw [e]; rfl

theorem arr1_7 (c : Dev nD) (hX : ∀ r m, IsReal (V c main_v0 (ix2 r m))) :
    (dat1 V c).arrAt 7 cfg1.N = fun j : S4096x9.Idx =>
      layerX (mat (V c main_arg0)) (mat (V c main_v0)) (mat (V c main_v4)) (mat (V c main_v6)) (j 0) (j 1) := by
  refine (dat1 V c).arrAt_eq_of_covers 7 _ (by decide +kernel) fun t hf y => ?_
  obtain ⟨i, k, rfl⟩ : ∃ (i : Fin 512) (k : Fin 9), y = ix2 i k := ⟨y 0, y 1, (ix2_eta y).symm⟩
  obtain ⟨b, hb⟩ : ∃ b : Fin 8, b.val = t.val := ⟨⟨t.val, t.isLt⟩, rfl⟩
  have e : (win1_7.blk t).view.emb (ix2 i k) = (ix2 (row b i) k : S4096x9.Idx) := by blk_ext [idx1_7]
  blk_simp
  rw [after1_7, out1_7_eq, b1_2, b1_4, b1_5]
  refine (block7 (h1_eq V c t b hb) (b1_1 V c t b hb) hX i k).trans ?_
  rw [e]; rfl

/-! ## Region 2 -/

theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![t.val, 0] := (by decide +kernel : ∀ t : Fin grid2.N, _)
theorem idx2_7 : ∀ t : Fin cfg2.N, win2_7.index t = ![t.val, 0] := (by decide +kernel : ∀ t : Fin grid2.N, _)

theorem b2_0 (c : Dev nD) (t : Fin cfg2.N) (b : Fin 8) (hb : b.val = t.val) (i : Fin 512) (k : Fin 128) :
    iblk2 V c 0 t (ix2 i k) = V c main_v7_0 (ix2 (row b i) k) := by
  blk_ext [iblk2, idx2_0]
theorem b2_1 (c : Dev nD) (t : Fin cfg2.N) (b : Fin 8) (hb : b.val = t.val) (i : Fin 512) (k : Fin 9) :
    iblk2 V c 1 t (ix2 i k) = V c main_v7_1 (ix2 (row b i) k) := by
  blk_ext [iblk2, idx2_1]
theorem b2_2 (c : Dev nD) (t : Fin cfg2.N) : iblk2 V c 2 t = V c main_v7_1 := by
  funext y; blk_ext [iblk2, idx2_2]
theorem b2_3 (c : Dev nD) (t : Fin cfg2.N) : iblk2 V c 3 t = V c main_v9 := by
  funext y; blk_ext [iblk2, idx2_3]
theorem b2_4 (c : Dev nD) (t : Fin cfg2.N) : iblk2 V c 4 t = V c main_v11 := by
  funext y; blk_ext [iblk2, idx2_4]
theorem b2_5 (c : Dev nD) (t : Fin cfg2.N) : iblk2 V c 5 t = V c main_v13 := by
  funext y; blk_ext [iblk2, idx2_5]

theorem h2_eq (c : Dev nD) (t : Fin cfg2.N) (b : Fin 8) (hb : b.val = t.val) (i : Fin 512) (k : Fin 128) :
    (shapeCast S512x128 (View.ld (iblk2 V c 0 t) r1_2) shapeCasts_S512x128_S512x128) (ix2 i k) = mat (V c main_v7_0) (row b i) k :=
  (congrFun (shapeCast_self _ _) _).trans <| (congrFun (ld_h _) _).trans (b2_0 V c t b hb i k)

theorem arr2_6 (c : Dev nD) (hX : ∀ r m, IsReal (V c main_v7_1 (ix2 r m))) :
    (dat2 V c).arrAt 6 cfg2.N = fun j : S4096x128.Idx =>
      layerH (mat (V c main_v7_0)) (mat (V c main_v7_1)) (mat (V c main_v9)) (mat (V c main_v11)) (j 0) (j 1) := by
  refine (dat2 V c).arrAt_eq_of_covers 6 _ (by decide +kernel) fun t hf y => ?_
  obtain ⟨i, k, rfl⟩ : ∃ (i : Fin 512) (k : Fin 128), y = ix2 i k := ⟨y 0, y 1, (ix2_eta y).symm⟩
  obtain ⟨b, hb⟩ : ∃ b : Fin 8, b.val = t.val := ⟨⟨t.val, t.isLt⟩, rfl⟩
  have e : (win2_6.blk t).view.emb (ix2 i k) = (ix2 (row b i) k : S4096x128.Idx) := by blk_ext [idx2_6]
  blk_simp
  rw [after2_6, out2_6_eq, b2_2, b2_3, b2_4]
  refine (block6 (h2_eq V c t b hb) (b2_1 V c t b hb) hX i k).trans ?_
  rw [e]; rfl

theorem arr2_7 (c : Dev nD) (hX : ∀ r m, IsReal (V c main_v7_1 (ix2 r m))) :
    (dat2 V c).arrAt 7 cfg2.N = fun j : S4096x9.Idx =>
      layerX (mat (V c main_v7_0)) (mat (V c main_v7_1)) (mat (V c main_v11)) (mat (V c main_v13)) (j 0) (j 1) := by
  refine (dat2 V c).arrAt_eq_of_covers 7 _ (by decide +kernel) fun t hf y => ?_
  obtain ⟨i, k, rfl⟩ : ∃ (i : Fin 512) (k : Fin 9), y = ix2 i k := ⟨y 0, y 1, (ix2_eta y).symm⟩
  obtain ⟨b, hb⟩ : ∃ b : Fin 8, b.val = t.val := ⟨⟨t.val, t.isLt⟩, rfl⟩
  have e : (win2_7.blk t).view.emb (ix2 i k) = (ix2 (row b i) k : S4096x9.Idx) := by blk_ext [idx2_7]
  blk_simp
  rw [after2_7, out2_7_eq, b2_2, b2_4, b2_5]
  refine (block7 (h2_eq V c t b hb) (b2_1 V c t b hb) hX i k).trans ?_
  rw [e]; rfl

/-! ## Region 3 -/

theorem idx3_0 : ∀ t : Fin cfg3.N, win3_0.index t = ![t.val, 0] := (by decide +kernel : ∀ t : Fin grid3.N, _)
theorem idx3_1 : ∀ t : Fin cfg3.N, win3_1.index t = ![t.val, 0] := (by decide +kernel : ∀ t : Fin grid3.N, _)
theorem idx3_2 : ∀ t : Fin cfg3.N, win3_2.index t = ![0, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![0, 0] := (by decide +kernel : ∀ t : Fin grid3.N, _)
theorem idx3_5 : ∀ t : Fin cfg3.N, win3_5.index t = ![0, 0] := (by decide +kernel : ∀ t : Fin grid3.N, _)
theorem idx3_6 : ∀ t : Fin cfg3.N, win3_6.index t = ![t.val, 0] := (by decide +kernel : ∀ t : Fin grid3.N, _)
theorem idx3_7 : ∀ t : Fin cfg3.N, win3_7.index t = ![t.val, 0] := (by decide +kernel : ∀ t : Fin grid3.N, _)

theorem b3_0 (c : Dev nD) (t : Fin cfg3.N) (b : Fin 8) (hb : b.val = t.val) (i : Fin 512) (k : Fin 128) :
    iblk3 V c 0 t (ix2 i k) = V c main_v14_0 (ix2 (row b i) k) := by
  blk_ext [iblk3, idx3_0]
theorem b3_1 (c : Dev nD) (t : Fin cfg3.N) (b : Fin 8) (hb : b.val = t.val) (i : Fin 512) (k : Fin 9) :
    iblk3 V c 1 t (ix2 i k) = V c main_v14_1 (ix2 (row b i) k) := by
  blk_ext [iblk3, idx3_1]
theorem b3_2 (c : Dev nD) (t : Fin cfg3.N) : iblk3 V c 2 t = V c main_v14_1 := by
  funext y; blk_ext [iblk3, idx3_2]
theorem b3_3 (c : Dev nD) (t : Fin cfg3.N) : iblk3 V c 3 t = V c main_v16 := by
  funext y; blk_ext [iblk3, idx3_3]
theorem b3_4 (c : Dev nD) (t : Fin cfg3.N) : iblk3 V c 4 t = V c main_v18 := by
  funext y; blk_ext [iblk3, idx3_4]
theorem b3_5 (c : Dev nD) (t : Fin cfg3.N) : iblk3 V c 5 t = V c main_v20 := by
  funext y; blk_ext [iblk3, idx3_5]

theorem h3_eq (c : Dev nD) (t : Fin cfg3.N) (b : Fin 8) (hb : b.val = t.val) (i : Fin 512) (k : Fin 128) :
    (shapeCast S512x128 (View.ld (iblk3 V c 0 t) r1_2) shapeCasts_S512x128_S512x128) (ix2 i k) = mat (V c main_v14_0) (row b i) k :=
  (congrFun (shapeCast_self _ _) _).trans <| (congrFun (ld_h _) _).trans (b3_0 V c t b hb i k)

theorem arr3_6 (c : Dev nD) (hX : ∀ r m, IsReal (V c main_v14_1 (ix2 r m))) :
    (dat3 V c).arrAt 6 cfg3.N = fun j : S4096x128.Idx =>
      layerH (mat (V c main_v14_0)) (mat (V c main_v14_1)) (mat (V c main_v16)) (mat (V c main_v18)) (j 0) (j 1) := by
  refine (dat3 V c).arrAt_eq_of_covers 6 _ (by decide +kernel) fun t hf y => ?_
  obtain ⟨i, k, rfl⟩ : ∃ (i : Fin 512) (k : Fin 128), y = ix2 i k := ⟨y 0, y 1, (ix2_eta y).symm⟩
  obtain ⟨b, hb⟩ : ∃ b : Fin 8, b.val = t.val := ⟨⟨t.val, t.isLt⟩, rfl⟩
  have e : (win3_6.blk t).view.emb (ix2 i k) = (ix2 (row b i) k : S4096x128.Idx) := by blk_ext [idx3_6]
  blk_simp
  rw [after3_6, out3_6_eq, b3_2, b3_3, b3_4]
  refine (block6 (h3_eq V c t b hb) (b3_1 V c t b hb) hX i k).trans ?_
  rw [e]; rfl

theorem arr3_7 (c : Dev nD) (hX : ∀ r m, IsReal (V c main_v14_1 (ix2 r m))) :
    (dat3 V c).arrAt 7 cfg3.N = fun j : S4096x9.Idx =>
      layerX (mat (V c main_v14_0)) (mat (V c main_v14_1)) (mat (V c main_v18)) (mat (V c main_v20)) (j 0) (j 1) := by
  refine (dat3 V c).arrAt_eq_of_covers 7 _ (by decide +kernel) fun t hf y => ?_
  obtain ⟨i, k, rfl⟩ : ∃ (i : Fin 512) (k : Fin 9), y = ix2 i k := ⟨y 0, y 1, (ix2_eta y).symm⟩
  obtain ⟨b, hb⟩ : ∃ b : Fin 8, b.val = t.val := ⟨⟨t.val, t.isLt⟩, rfl⟩
  have e : (win3_7.blk t).view.emb (ix2 i k) = (ix2 (row b i) k : S4096x9.Idx) := by blk_ext [idx3_7]
  blk_simp
  rw [after3_7, out3_7_eq, b3_2, b3_4, b3_5]
  refine (block7 (h3_eq V c t b hb) (b3_1 V c t b hb) hX i k).trans ?_
  rw [e]; rfl

/-! ## Regions 0 and 4 -/

theorem pay0_apply (x : FVec Ideal S4096x128 .f32) (w : FVec Ideal S128x9 .f32) (r : Fin 4096) (m : Fin 9) :
    k0_pay1 (F := Ideal) x w (ix2 r m) = init (mat x) (mat w) r m := by
  pointwise [k0_pay1]
  rfl

theorem pay4_apply (x : FVec Ideal S4096x9 .f32) (r : Fin 4096) (m : Fin 9) :
    k4_pay1 (F := Ideal) x (ix2 r m) = output (mat x) r m := by
  pointwise [k4_pay1]
  fin_cases m <;> rfl

theorem idx0_0 (t : Fin cfg0.N) : win0_0.index t = fun _ => 0 := rfl
theorem idx0_1 (t : Fin cfg0.N) : win0_1.index t = fun _ => 0 := rfl
theorem idx0_2 (t : Fin cfg0.N) : win0_2.index t = fun _ => 0 := rfl
theorem idx4_0 (t : Fin cfg4.N) : win4_0.index t = fun _ => 0 := rfl
theorem idx4_1 (t : Fin cfg4.N) : win4_1.index t = fun _ => 0 := rfl

theorem arr0_2 (c : Dev nD) :
    (dat0 V c).arrAt 2 cfg0.N = fun j : S4096x9.Idx => init (mat (V c main_arg0)) (mat (V c main_arg4)) (j 0) (j 1) := by
  refine (dat0 V c).arrAt_eq_of_covers 2 _ (by decide +kernel) fun t hf y => ?_
  obtain ⟨i, k, rfl⟩ : ∃ (i : Fin 4096) (k : Fin 9), y = ix2 i k := ⟨y 0, y 1, (ix2_eta y).symm⟩
  have e : (win0_2.blk t).view.emb (ix2 i k) = (ix2 i k : S4096x9.Idx) := by blk_ext [idx0_2]
  have e0 : iblk0 V c 0 t = V c main_arg0 := by funext y; blk_ext [iblk0, idx0_0]
  have e1 : iblk0 V c 1 t = V c main_arg4 := by funext y; blk_ext [iblk0, idx0_1]
  blk_simp
  rw [after0_2, e0, e1]
  unfold out0_2
  rw [View.canon_unit_zero (zero2 _ rfl rfl), View.ld_unit_zero (zero2 _ rfl rfl), View.ld_unit_zero (zero2 _ rfl rfl)]
  refine (pay0_apply _ _ i k).trans ?_
  rw [e]; rfl

theorem arr4_1 (c : Dev nD) :
    (dat4 V c).arrAt 1 cfg4.N = fun j : S4096x9.Idx => output (mat (V c main_v21_1)) (j 0) (j 1) := by
  refine (dat4 V c).arrAt_eq_of_covers 1 _ (by decide +kernel) fun t hf y => ?_
  obtain ⟨i, k, rfl⟩ : ∃ (i : Fin 4096) (k : Fin 9), y = ix2 i k := ⟨y 0, y 1, (ix2_eta y).symm⟩
  have e : (win4_1.blk t).view.emb (ix2 i k) = (ix2 i k : S4096x9.Idx) := by blk_ext [idx4_1]
  have e0 : iblk4 V c 0 t = V c main_v21_1 := by funext y; blk_ext [iblk4, idx4_0]
  blk_simp
  rw [after4_1, e0]
  unfold out4_1
  rw [View.canon_unit_zero (zero2 _ rfl rfl), View.ld_unit_zero (zero2 _ rfl rfl)]
  refine (pay4_apply _ i k).trans ?_
  rw [e]; rfl

end Cert.KernelIdeal.Lay

end
-- ==== Proof.KRun.lean ====
/- The kernel's run with its result named: the frame's launch over the segments, with the result array read at the last
   boundary's contents beside the arguments. -/
module

public import proofs.«01_k».proof.Proof.Gen.KernelIdeal.Frame

@[expose] public section

set_option maxRecDepth 16384

noncomputable section

namespace Cert.KernelIdeal.Lay

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one
set_option backward.isDefEq.respectTransparency.types false in
/-- Every execution ends with the result array at the last boundary's contents and every argument as launched. -/
theorem run : θ_run defs (onTc (τ := τ) (main (F := F))) ⟨m, fun _ => 0, ρ⟩ (fun r => (∀ c : Dev nD,
      r.2.mem ((c.tc : Thread nD τ).loc main_v23) = W9 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v23 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩), funext fun g => hz g (.inr (no_unscoped g.2))⟩)

end Cert.KernelIdeal.Lay

end
-- ==== Proof.KFold.lean ====
/- The kernel's result at an index: the network of `Net` over the argument arrays. -/
module

public import proofs.«01_k».proof.Proof.KRegion
public import proofs.«01_k».proof.Proof.KRun
public import Idealize.ShloMosaic.Lib.StableHlo.ReadAt

@[expose] public section

set_option maxRecDepth 16384

noncomputable section

namespace Cert.KernelIdeal.Lay

open Idealize.ShloMosaic Idealize.ShloMosaic.TcCoe Idealize.ShloMosaic.Pointwise Cert.KernelIdeal.Gen Cert.Knn

/-- Layer `l` of a stack of weight matrices. -/
abbrev stk {N M : ℕ} (X : FVec Ideal ⟨3, ![3, N, M]⟩ .f32) (l : Fin 3) (r : Fin N) (c : Fin M) : EReal := X (ix3 l r c)

variable (m : (ℓ : Loc nD τ sig) → Buf (Elt Ideal) ℓ) (ρ : Dev nD → PrngReg) (c : Dev nD)

/-- The arguments, as the run finds them. -/
abbrev aH : Fin 4096 → Fin 128 → EReal := mat (m ((c : Thread nD τ).loc main_arg0))
abbrev aW : Fin 128 → Fin 9 → EReal := mat (m ((c : Thread nD τ).loc main_arg4))
abbrev aWh : Fin 3 → Fin 128 → Fin 128 → EReal := stk (m ((c : Thread nD τ).loc main_arg5))
abbrev aWe : Fin 3 → Fin 272 → Fin 128 → EReal := stk (m ((c : Thread nD τ).loc main_arg6))
abbrev aWs : Fin 3 → Fin 128 → Fin 3 → EReal := stk (m ((c : Thread nD τ).loc main_arg7))

/-! ## The layers' weights -/

theorem wh0 (x : Fin 128) (k : Fin 128) : V2 m ρ c main_v2 (ix2 x k) = aWh m c 0 x k := by
  refine Eq.trans ?_ (congrFun (W1_args m ρ c main_arg5 (by decide)) (ix3 0 x k))
  show StableHlo.after hostOps1 (W1 m ρ c) (Proc.devRef .tc main_v2) (ix2 x k) = _
  after_reads_at

theorem we0 (x : Fin 272) (k : Fin 128) : V2 m ρ c main_v4 (ix2 x k) = aWe m c 0 x k := by
  refine Eq.trans ?_ (congrFun (W1_args m ρ c main_arg6 (by decide)) (ix3 0 x k))
  show StableHlo.after hostOps1 (W1 m ρ c) (Proc.devRef .tc main_v4) (ix2 x k) = _
  after_reads_at

theorem ws0 (x : Fin 128) (k : Fin 3) : V2 m ρ c main_v6 (ix2 x k) = aWs m c 0 x k := by
  refine Eq.trans ?_ (congrFun (W1_args m ρ c main_arg7 (by decide)) (ix3 0 x k))
  show StableHlo.after hostOps1 (W1 m ρ c) (Proc.devRef .tc main_v6) (ix2 x k) = _
  after_reads_at

theorem wh1 (x : Fin 128) (k : Fin 128) : V4 m ρ c main_v9 (ix2 x k) = aWh m c 1 x k := by
  refine Eq.trans ?_ (congrFun (W3_args m ρ c main_arg5 (by decide)) (ix3 1 x k))
  show StableHlo.after hostOps2 (W3 m ρ c) (Proc.devRef .tc main_v9) (ix2 x k) = _
  after_reads_at

theorem we1 (x : Fin 272) (k : Fin 128) : V4 m ρ c main_v11 (ix2 x k) = aWe m c 1 x k := by
  refine Eq.trans ?_ (congrFun (W3_args m ρ c main_arg6 (by decide)) (ix3 1 x k))
  show StableHlo.after hostOps2 (W3 m ρ c) (Proc.devRef .tc main_v11) (ix2 x k) = _
  after_reads_at

theorem ws1 (x : Fin 128) (k : Fin 3) : V4 m ρ c main_v13 (ix2 x k) = aWs m c 1 x k := by
  refine Eq.trans ?_ (congrFun (W3_args m ρ c main_arg7 (by decide)) (ix3 1 x k))
  show StableHlo.after hostOps2 (W3 m ρ c) (Proc.devRef .tc main_v13) (ix2 x k) = _
  after_reads_at

theorem wh2 (x : Fin 128) (k : Fin 128) : V6 m ρ c main_v16 (ix2 x k) = aWh m c 2 x k := by
  refine Eq.trans ?_ (congrFun (W5_args m ρ c main_arg5 (by decide)) (ix3 2 x k))
  show StableHlo.after hostOps3 (W5 m ρ c) (Proc.devRef .tc main_v16) (ix2 x k) = _
  after_reads_at

theorem we2 (x : Fin 272) (k : Fin 128) : V6 m ρ c main_v18 (ix2 x k) = aWe m c 2 x k := by
  refine Eq.trans ?_ (congrFun (W5_args m ρ c main_arg6 (by decide)) (ix3 2 x k))
  show StableHlo.after hostOps3 (W5 m ρ c) (Proc.devRef .tc main_v18) (ix2 x k) = _
  after_reads_at

theorem ws2 (x : Fin 128) (k : Fin 3) : V6 m ρ c main_v20 (ix2 x k) = aWs m c 2 x k := by
  refine Eq.trans ?_ (congrFun (W5_args m ρ c main_arg7 (by decide)) (ix3 2 x k))
  show StableHlo.after hostOps3 (W5 m ρ c) (Proc.devRef .tc main_v20) (ix2 x k) = _
  after_reads_at

/-! ## The arrays at each region's entry -/

variable (hF : Finite (aH m c) (aW m c) (aWh m c) (aWe m c) (aWs m c))

theorem v0_at (r : Fin 4096) (k : Fin 9) : V2 m ρ c main_v0 (ix2 r k) = x1 (aH m c) (aW m c) r k :=
  (congrFun ((W2_of m ρ c main_v0 (by decide)).trans ((W1_arr m ρ c 2).trans (arr0_2 (V0 m ρ) c))) (ix2 r k))

theorem arg0_at (r : Fin 4096) (k : Fin 128) : V2 m ρ c main_arg0 (ix2 r k) = aH m c r k :=
  congrFun (W2_args m ρ c main_arg0 (by decide)) (ix2 r k)

include hF

theorem v7_0_at (r : Fin 4096) (k : Fin 128) :
    V4 m ρ c main_v7_0 (ix2 r k) = h2 (aH m c) (aW m c) (aWh m c) (aWe m c) r k := by
  refine (congrFun ((W4_of m ρ c main_v7_0 (by decide)).trans ((W3_arr m ρ c 6).trans
    (arr1_6 (V2 m ρ) c fun r k => by rw [v0_at]; exact hF.x1 r k))) (ix2 r k)).trans ?_
  have e0 : mat (V2 m ρ c main_arg0) = aH m c := funext₂ (arg0_at m ρ c)
  have e1 : mat (V2 m ρ c main_v0) = x1 (aH m c) (aW m c) := funext₂ (v0_at m ρ c)
  have e2 : mat (V2 m ρ c main_v2) = aWh m c 0 := funext₂ (wh0 m ρ c)
  have e3 : mat (V2 m ρ c main_v4) = aWe m c 0 := funext₂ (we0 m ρ c)
  rw [e0, e1, e2, e3]; rfl

theorem v7_1_at (r : Fin 4096) (k : Fin 9) :
    V4 m ρ c main_v7_1 (ix2 r k) = x2 (aH m c) (aW m c) (aWe m c) (aWs m c) r k := by
  refine (congrFun ((W4_of m ρ c main_v7_1 (by decide)).trans ((W3_arr m ρ c 7).trans
    (arr1_7 (V2 m ρ) c fun r k => by rw [v0_at]; exact hF.x1 r k))) (ix2 r k)).trans ?_
  have e0 : mat (V2 m ρ c main_arg0) = aH m c := funext₂ (arg0_at m ρ c)
  have e1 : mat (V2 m ρ c main_v0) = x1 (aH m c) (aW m c) := funext₂ (v0_at m ρ c)
  have e2 : mat (V2 m ρ c main_v4) = aWe m c 0 := funext₂ (we0 m ρ c)
  have e3 : mat (V2 m ρ c main_v6) = aWs m c 0 := funext₂ (ws0 m ρ c)
  rw [e0, e1, e2, e3]; rfl

theorem v14_0_at (r : Fin 4096) (k : Fin 128) :
    V6 m ρ c main_v14_0 (ix2 r k) = h3 (aH m c) (aW m c) (aWh m c) (aWe m c) (aWs m c) r k := by
  refine (congrFun ((W6_of m ρ c main_v14_0 (by decide)).trans ((W5_arr m ρ c 6).trans
    (arr2_6 (V4 m ρ) c fun r k => by rw [v7_1_at m ρ c hF]; exact hF.x2 r k))) (ix2 r k)).trans ?_
  have e0 : mat (V4 m ρ c main_v7_0) = _ := funext₂ (v7_0_at m ρ c hF)
  have e1 : mat (V4 m ρ c main_v7_1) = _ := funext₂ (v7_1_at m ρ c hF)
  have e2 : mat (V4 m ρ c main_v9) = aWh m c 1 := funext₂ (wh1 m ρ c)
  have e3 : mat (V4 m ρ c main_v11) = aWe m c 1 := funext₂ (we1 m ρ c)
  rw [e0, e1, e2, e3]; rfl

theorem v14_1_at (r : Fin 4096) (k : Fin 9) :
    V6 m ρ c main_v14_1 (ix2 r k) = x3 (aH m c) (aW m c) (aWh m c) (aWe m c) (aWs m c) r k := by
  refine (congrFun ((W6_of m ρ c main_v14_1 (by decide)).trans ((W5_arr m ρ c 7).trans
    (arr2_7 (V4 m ρ) c fun r k => by rw [v7_1_at m ρ c hF]; exact hF.x2 r k))) (ix2 r k)).trans ?_
  have e0 : mat (V4 m ρ c main_v7_0) = _ := funext₂ (v7_0_at m ρ c hF)
  have e1 : mat (V4 m ρ c main_v7_1) = _ := funext₂ (v7_1_at m ρ c hF)
  have e2 : mat (V4 m ρ c main_v11) = aWe m c 1 := funext₂ (we1 m ρ c)
  have e3 : mat (V4 m ρ c main_v13) = aWs m c 1 := funext₂ (ws1 m ρ c)
  rw [e0, e1, e2, e3]; rfl

theorem v21_1_at (r : Fin 4096) (k : Fin 9) :
    V7 m ρ c main_v21_1 (ix2 r k) = x4 (aH m c) (aW m c) (aWh m c) (aWe m c) (aWs m c) r k := by
  refine (congrFun ((W7_arr m ρ c 7).trans
    (arr3_7 (V6 m ρ) c fun r k => by rw [v14_1_at m ρ c hF]; exact hF.x3 r k)) (ix2 r k)).trans ?_
  have e0 : mat (V6 m ρ c main_v14_0) = _ := funext₂ (v14_0_at m ρ c hF)
  have e1 : mat (V6 m ρ c main_v14_1) = _ := funext₂ (v14_1_at m ρ c hF)
  have e2 : mat (V6 m ρ c main_v18) = aWe m c 2 := funext₂ (we2 m ρ c)
  have e3 : mat (V6 m ρ c main_v20) = aWs m c 2 := funext₂ (ws2 m ρ c)
  rw [e0, e1, e2, e3]; rfl

/-- The kernel's result. -/
theorem result_at (b : Fin 8) (i : Fin 512) (k : Fin 9) :
    W9 m ρ c (Proc.devRef .tc main_v23) (ix3 b i k) =
      net (aH m c) (aW m c) (aWh m c) (aWe m c) (aWs m c) (row b i) k := by
  have e : W8 m ρ c (Proc.devRef .tc main_v22) (ix2 (row b i) k) =
      net (aH m c) (aW m c) (aWh m c) (aWe m c) (aWs m c) (row b i) k := by
    refine (congrFun ((W8_arr m ρ c 1).trans (arr4_1 (V7 m ρ) c)) (ix2 (row b i) k)).trans ?_
    have e0 : mat (V7 m ρ c main_v21_1) = _ := funext₂ (v21_1_at m ρ c hF)
    rw [e0]; rfl
  refine Eq.trans ?_ e
  show StableHlo.after hostOps5 (W8 m ρ c) (Proc.devRef .tc main_v23) (ix3 b i k) = _
  after_reads_at

end Cert.KernelIdeal.Lay

end
-- ==== Proof.RLayer.lean ====
/- One layer of the reference as vector expressions of the features, the coordinates and the layer's weights, stated
   once, and that each of the reference's three layers is it. -/
module

public import proofs.«01_k».proof.Proof.Gen.ReferenceIdeal.Read

@[expose] public section

set_option maxRecDepth 16384

noncomputable section

namespace Cert.ReferenceIdeal.Lay

open Idealize.ShloMosaic Cert.ReferenceIdeal Cert.ReferenceIdeal.Gen Cert.ReferenceIdeal.Read

variable {F : FTy → Type} [FloatOps F]

/-- The coordinates with the mean position of all the nodes taken from every one of the three atoms. -/
def center (x : FVec F S4096x3x3 .f32) : FVec F S4096x3x3 .f32 :=
  subf x
    (broadcastInDim S4096x3x3 ![0, 1, 2] bcast_S1x1x3_S4096x3x3_0_1_2
      (Host.divf
        (broadcastInDim S1x1x3 ![1, 2] bcast_S1x3_S1x1x3_1_2
          (Host.reduceAdd (extractStridedSlice S4096x1x3 ![0, 1, 0] x slices_S4096x3x3_S4096x1x3_0_1_0)
            (constant S_ .f32 0x00000000#32) reducesTo_S4096x1x3_S1x3_d0 h_S_))
        (broadcastInDim S1x1x3 ![] bcast_S_S1x1x3 (constant S_ .f32 0x45800000#32))))

/-- The positions: the second atom's coordinates. -/
def pos (x : FVec F S4096x3x3 .f32) : FVec F S4096x3 .f32 :=
  shapeCast _ (extractStridedSlice S4096x1x3 ![0, 1, 0] x slices_S4096x3x3_S4096x1x3_0_1_0) shapeCasts_S4096x1x3_S4096x3

/-- The differences of the positions of two nodes of one protein. -/
def diff (p : FVec F S4096x3 .f32) : FVec F S8x512x512x3 .f32 :=
  have q : FVec F S8x512x3 .f32 := shapeCast _ p shapeCasts_S4096x3_S8x512x3
  subf
    (broadcastInDim S8x512x512x3 ![0, 1, 2, 3] bcast_S8x512x1x3_S8x512x512x3_0_1_2_3
      (broadcastInDim S8x512x1x3 ![0, 1, 3] bcast_S8x512x3_S8x512x1x3_0_1_3 q))
    (broadcastInDim S8x512x512x3 ![0, 1, 2, 3] bcast_S8x1x512x3_S8x512x512x3_0_1_2_3
      (broadcastInDim S8x1x512x3 ![0, 2, 3] bcast_S8x512x3_S8x1x512x3_0_2_3 q))

/-- The negated squared distances, a node's to itself infinite. -/
def score (p : FVec F S4096x3 .f32) : FVec F S8x512x512 .f32 :=
  Host.negf
    (select
      (broadcastInDim S8x512x512 ![0, 1, 2] bcast_S1x512x512_S8x512x512_0_1_2
        (broadcastInDim S1x512x512 ![1, 2] bcast_S512x512_S1x512x512_1_2
          (cmpi .eq
            (addi (iotaInDim S512x512 32 0) (broadcastInDim S512x512 ![] bcast_S_S512x512 (constantI S_ 32 0#32)))
            (iotaInDim S512x512 32 1))))
      (broadcastInDim S8x512x512 ![] bcast_S_S8x512x512 (id (constant S_ .f32 0x7F800000#32)))
      (Host.reduceAdd (mulf (diff p) (diff p)) (constant S_ .f32 0x00000000#32) reducesTo_S8x512x512x3_S8x512x512_d3
        h_S_))

/-- Per node, the sixteen nearest nodes of its protein, counted within the protein. -/
def near (p : FVec F S4096x3 .f32) : IVec S8x512x16 32 :=
  (Host.topK S8x512x16 2 (FloatOps.cmpfTotal .gt) (score p) sliceFits_S8x512x512_S8x512x16).2

/-- The edges' source nodes. -/
def src (p : FVec F S4096x3 .f32) : IVec S65536 32 :=
  shapeCast _
    (addi (near p)
      (broadcastInDim S8x512x16 ![0, 1, 2] bcast_S8x1x1_S8x512x16_0_1_2
        (broadcastInDim S8x1x1 ![0] bcast_S8_S8x1x1_0
          (muli (iotaInDim S8 32 0) (broadcastInDim S8 ![] bcast_S_S8 (constantI S_ 32 512#32))))))
    shapeCasts_S8x512x16_S65536

/-- The edges' target nodes. -/
def dst : IVec S65536 32 :=
  shapeCast _ (broadcastInDim S4096x16 ![0] bcast_S4096_S4096x16_0 (iotaInDim S4096 32 0)) shapeCasts_S4096x16_S65536

/-- Row numbers as a gather takes them: a negative one counts from the end. -/
def rows (v : IVec S65536 32) : IVec S65536x1 32 :=
  broadcastInDim S65536x1 ![0] bcast_S65536_S65536x1_0
    (select (cmpi .slt v (broadcastInDim S65536 ![] bcast_S_S65536 (constantI S_ 32 0#32)))
      (addi v (broadcastInDim S65536 ![] bcast_S_S65536 (constantI S_ 32 4096#32))) v)

/-- The edges' displacements. -/
def dvec (p : FVec F S4096x3 .f32) : FVec F S65536x3 .f32 :=
  subf (Host.gather gather_S4096x3_S65536x1_S65536x3_1_0_n_n_0_1_13 p (rows (src p)))
    (Host.gather gather_S4096x3_S65536x1_S65536x3_1_0_n_n_0_1_13 p (rows dst))

/-- The edges' squared lengths. -/
def d2 (d : FVec F S65536x3 .f32) : FVec F S65536 .f32 :=
  Host.reduceAdd (mulf d d) (constant S_ .f32 0x00000000#32) reducesTo_S65536x3_S65536_d1 h_S_

/-- The edges' directions. -/
def xi (d : FVec F S65536x3 .f32) : FVec F S65536x3 .f32 :=
  Host.divf d
    (broadcastInDim S65536x3 ![0, 1] bcast_S65536x1_S65536x3_0_1
      (addf (Host.sqrt (broadcastInDim S65536x1 ![0] bcast_S65536_S65536x1_0 (d2 d)))
        (broadcastInDim S65536x1 ![] bcast_S_S65536x1 (constant S_ .f32 0x322BCC77#32))))

/-- The sixteen centres of the radial functions, spaced evenly from 0 to 20. -/
def mu : FVec F S16 .f32 :=
  have q : FVec F S15 .f32 :=
    Host.divf (sitofp .f32 (iotaInDim S15 32 0)) (broadcastInDim S15 ![] bcast_S_S15 (constant S_ .f32 0x41700000#32))
  concatenate S16 0
    [⟨S15, addf
        (mulf (broadcastInDim S15 ![0] bcast_S1_S15_0 (shapeCast _ (id (constant S_ .f32 0x00000000#32)) shapeCasts_S_S1))
          (subf (broadcastInDim S15 ![] bcast_S_S15 (constant S_ .f32 0x3F800000#32)) q))
        (mulf (broadcastInDim S15 ![0] bcast_S1_S15_0 (shapeCast _ (id (constant S_ .f32 0x41A00000#32)) shapeCasts_S_S1))
          q)⟩,
      ⟨S1, broadcastInDim S1 ![] bcast_S_S1 (id (constant S_ .f32 0x41A00000#32))⟩]
    concatenates_S15_S1_S16_d0

/-- The edges' lengths less the centres, over the width. -/
def off (d : FVec F S65536x3 .f32) : FVec F S65536x16 .f32 :=
  Host.divf
    (subf
      (broadcastInDim S65536x16 ![0, 1] bcast_S65536x1_S65536x16_0_1
        (broadcastInDim S65536x1 ![0] bcast_S65536_S65536x1_0 (Host.sqrt (d2 d))))
      (broadcastInDim S65536x16 ![0, 1] bcast_S1x16_S65536x16_0_1 (broadcastInDim S1x16 ![1] bcast_S16_S1x16_1 mu)))
    (broadcastInDim S65536x16 ![] bcast_S_S65536x16 (constant S_ .f32 0x3FA00000#32))

/-- The edges' input features. -/
def feat (h : FVec F S4096x128 .f32) (p : FVec F S4096x3 .f32) : FVec F S65536x272 .f32 :=
  concatenate S65536x272 1
    [⟨S65536x128, Host.gather gather_S4096x128_S65536x1_S65536x128_1_0_n_n_0_1_1128 h (rows (src p))⟩,
      ⟨S65536x128, Host.gather gather_S4096x128_S65536x1_S65536x128_1_0_n_n_0_1_1128 h (rows dst)⟩,
      ⟨S65536x16, Host.exp (Host.negf (mulf (off (dvec p)) (off (dvec p))))⟩]
    concatenates_S65536x128_S65536x128_S65536x16_S65536x272_d1

/-- The edges' messages. -/
def msg (h : FVec F S4096x128 .f32) (p : FVec F S4096x3 .f32) (we : FVec F S272x128 .f32) : FVec F S65536x128 .f32 :=
  maximumf (Host.dotGeneral dot_S65536x272_S272x128_S65536x128_1_0_0_1_n_n none (feat h p) we)
    (broadcastInDim S65536x128 ![] bcast_S_S65536x128 (constant S_ .f32 0x00000000#32))

/-- The target nodes as a scatter takes them. -/
def dstCol : IVec S65536x1 32 := broadcastInDim S65536x1 ![0] bcast_S65536_S65536x1_0 dst

/-- The new features. -/
def newH (h : FVec F S4096x128 .f32) (p : FVec F S4096x3 .f32) (wh : FVec F S128x128 .f32) (we : FVec F S272x128 .f32) :
    FVec F S4096x128 .f32 :=
  maximumf
    (addf (Host.dotGeneral dot_S4096x128_S128x128_S4096x128_1_0_0_1_n_n none h wh)
      (Host.scatterAdd scatter_S4096x128_S65536x1_S65536x128_1_0_0_1
        (broadcastInDim S4096x128 ![] bcast_S_S4096x128 (constant S_ .f32 0x00000000#32)) dstCol (msg h p we)))
    (broadcastInDim S4096x128 ![] bcast_S_S4096x128 (constant S_ .f32 0x00000000#32))

/-- The edges' coordinate updates. -/
def upd (h : FVec F S4096x128 .f32) (p : FVec F S4096x3 .f32) (we : FVec F S272x128 .f32) (ws : FVec F S128x3 .f32) :
    FVec F S65536x3x3 .f32 :=
  mulf
    (broadcastInDim S65536x3x3 ![0, 1, 2] bcast_S65536x1x3_S65536x3x3_0_1_2
      (broadcastInDim S65536x1x3 ![0, 2] bcast_S65536x3_S65536x1x3_0_2 (xi (dvec p))))
    (broadcastInDim S65536x3x3 ![0, 1, 2] bcast_S65536x3x1_S65536x3x3_0_1_2
      (broadcastInDim S65536x3x1 ![0, 1] bcast_S65536x3_S65536x3x1_0_1
        (Host.dotGeneral dot_S65536x128_S128x3_S65536x3_1_0_0_1_n_n none (msg h p we) ws)))

/-- The new coordinates, of coordinates that are already centred. -/
def newX (h : FVec F S4096x128 .f32) (x : FVec F S4096x3x3 .f32) (we : FVec F S272x128 .f32) (ws : FVec F S128x3 .f32) :
    FVec F S4096x3x3 .f32 :=
  addf x
    (Host.scatterAdd scatter_S4096x3x3_S65536x1_S65536x3x3_12_0_0_1
      (broadcastInDim S4096x3x3 ![] bcast_S_S4096x3x3 (constant S_ .f32 0x00000000#32)) dstCol (upd h (pos x) we ws))

variable (x0 : FVec F S4096x128 .f32) (x1 : IVec S4096 1) (x4 : FVec F S128x9 .f32) (x5 : FVec F S3x128x128 .f32)
  (x6 : FVec F S3x272x128 .f32) (x7 : FVec F S3x128x3 .f32)

theorem h1_eq : val_main_v99 x0 x1 x4 x5 x6 =
    newH (val_main_v1 x0 x1) (pos (center (val_main_v3 x0 x1 x4))) (val_main_v12 x5) (val_main_v14 x6) := rfl

theorem x1_eq : val_main_v109 x0 x1 x4 x6 x7 =
    newX (val_main_v1 x0 x1) (center (val_main_v3 x0 x1 x4)) (val_main_v14 x6) (val_main_v16 x7) := rfl

theorem h2_eq : val_main_v205 x0 x1 x4 x5 x6 x7 =
    newH (val_main_v99 x0 x1 x4 x5 x6) (pos (center (val_main_v109 x0 x1 x4 x6 x7))) (val_main_v118 x5) (val_main_v120 x6) := rfl

theorem x2_eq : val_main_v215 x0 x1 x4 x5 x6 x7 =
    newX (val_main_v99 x0 x1 x4 x5 x6) (center (val_main_v109 x0 x1 x4 x6 x7)) (val_main_v120 x6) (val_main_v122 x7) := rfl

theorem x3_eq : val_main_v321 x0 x1 x4 x5 x6 x7 =
    newX (val_main_v205 x0 x1 x4 x5 x6 x7) (center (val_main_v215 x0 x1 x4 x5 x6 x7)) (val_main_v226 x6) (val_main_v228 x7) := rfl

theorem out_eq : val_main_v332 x0 x1 x4 x5 x6 x7 =
    shapeCast _ (mulf (shapeCast _ (center (val_main_v321 x0 x1 x4 x5 x6 x7)) shapeCasts_S4096x3x3_S4096x9)
      (broadcastInDim S4096x9 ![] bcast_S_S4096x9 (constant S_ .f32 0x41200000#32))) shapeCasts_S4096x9_S8x512x9 := rfl

end Cert.ReferenceIdeal.Lay

end
-- ==== Proof.RVal.lean ====
/- One layer of the reference, read at an index: the layer of `Spec` over the eight proteins. -/
module

public import proofs.«01_k».proof.Proof.RLayer
public import proofs.«01_k».proof.Proof.Net
public import Idealize.ShloMosaic.Lib.Pointwise
public import Idealize.ShloMosaic.Lib.Routing.Ops
public import Idealize.ShloMosaic.Lib.Routing.OpsPair

@[expose] public section

set_option maxRecDepth 16384

noncomputable section

namespace Cert.ReferenceIdeal.Lay

open Idealize.ShloMosaic Idealize.ShloMosaic.Pointwise Cert.ReferenceIdeal Cert.ReferenceIdeal.Gen Cert.ReferenceIdeal.Read
open Cert.Knn (row prot node nodes IsReal)

/-- The coordinates as a function of the row and one of the nine places. -/
abbrev flat (x : FVec Ideal S4096x3x3 .f32) (r : Fin 4096) (m : Fin 9) : EReal :=
  x (ix3 r ⟨m.val / 3, by omega⟩ ⟨m.val % 3, by omega⟩)

/-- One protein's positions. -/
abbrev prt (p : FVec Ideal S4096x3 .f32) (b : Fin 8) (i : Fin 512) (k : Fin 3) : EReal := p (ix2 (row b i) k)

theorem center_apply (x : FVec Ideal S4096x3x3 .f32) (r : Fin 4096) (a k : Fin 3) :
    center (F := Ideal) x (ix3 r a k) = x (ix3 r a k) - Ideal.div (∑ s, x (ix3 s 1 k)) nodes := by
  pointwise [center]
  rfl

theorem pos_apply (x : FVec Ideal S4096x3x3 .f32) (r : Fin 4096) (k : Fin 3) :
    pos (F := Ideal) x (ix2 r k) = x (ix3 r 1 k) := by
  pointwise [pos]

theorem diff_apply (p : FVec Ideal S4096x3 .f32) (b : Fin 8) (i j : Fin 512) (k : Fin 3) :
    diff (F := Ideal) p (ix4 b i j k) = prt p b i k - prt p b j k := by
  pointwise [diff]

theorem eq_word (i j : Fin 512) :
    IntOp.cmpi .eq (IntOp.addi (BitVec.ofNat 32 i.val) 0#32) (BitVec.ofNat 32 j.val) = if i = j then 1#1 else 0#1 := by
  have h : (BitVec.ofNat 32 i.val = BitVec.ofNat 32 j.val) ↔ i = j := by
    constructor
    · intro h
      have h := congrArg BitVec.toNat h
      rw [BitVec.toNat_ofNat, BitVec.toNat_ofNat] at h
      exact Fin.ext (by omega)
    · rintro rfl; rfl
  by_cases e : i = j
  · subst e; simp [IntOp.cmpi, IntOp.addi]
  · have := beq_eq_false_iff_ne.mpr fun h' => e (h.mp h')
    simp [IntOp.cmpi, IntOp.addi, e, this]

theorem score_apply (p : FVec Ideal S4096x3 .f32) (b : Fin 8) (i j : Fin 512) :
    score (F := Ideal) p (ix3 b i j) = -(Knn.score (prt p b) i j) := by
  unfold score
  pointwise [diff_apply]
  rw [eq_word]
  unfold Knn.score
  by_cases e : i = j
  · rw [if_pos e, if_pos e]
    show -(Ideal.ofBits .f32 0x7F800000#32) = _
    rw [Knn.ofBits_inf]
  · rw [if_neg e, if_neg e]; rfl

theorem sort2_snd {s : Shape} {d : ℕ} {α β : Type} (hd : d < s.rank) (cmp : α × β → α × β → BitVec 1) (x : s.Idx → α)
    (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The sorted row numbers, at a place of the last axis. -/
theorem sort_snd (x : FVec Ideal S8x512x512 .f32) (b : Fin 8) (i u : Fin 512) :
    (Host.sort2 S8x512x512 2 (fun l r => FloatOps.cmpfTotal (F := Ideal) (φ := .f32) .gt l.1 r.1) x
      fun i => BitVec.ofNat 32 (i 2).val).2 (ix3 b i u) =
      BitVec.ofNat 32 (sortedFrom
        (fun k k' : Fin 512 => FloatOps.cmpfTotal (F := Ideal) (φ := .f32) .gt (x (ix3 b i k)) (x (ix3 b i k')) == 1#1) u).val := by
  have hd : 2 < S8x512x512.rank := of_decide_eq_true rfl
  have al : ∀ k : Fin 512, (ix3 b i u : S8x512x512.Idx).along (⟨2, hd⟩ : Fin S8x512x512.rank) k = ix3 b i k :=
    fun k => by
      funext q
      unfold Shape.Idx.along
      fin_cases q <;> rfl
  refine (sort2_snd hd _ _ _ _).trans ?_
  refine (congrArg (fun i : S8x512x512.Idx => BitVec.ofNat 32 (i 2).val) (al _)).trans ?_
  refine congrArg (fun q : Fin 512 => BitVec.ofNat 32 q.val) ?_
  refine congrFun (congrArg (sortedFrom (n := 512)) (funext₂ fun k k' => ?_)) u
  exact congrArg₂ (fun p q => FloatOps.cmpfTotal (F := Ideal) (φ := .f32) .gt (x p) (x q) == 1#1) (al k) (al k')

theorem near_apply (p : FVec Ideal S4096x3 .f32) (b : Fin 8) (i : Fin 512) (t : Fin 16) :
    near (F := Ideal) p (ix3 b i t) = BitVec.ofNat 32 (Knn.nb (prt p b) i t).val := by
  unfold near Host.topK
  pointwise []
  refine (sort_snd _ b i _).trans ?_
  unfold Knn.nb Knn.order
  refine congrArg (fun f : Fin 512 → Fin 512 => BitVec.ofNat 32 (f ⟨t.val, by omega⟩).val) ?_
  refine sortedFrom_congr _ _ fun k k' _ => ?_
  rw [score_apply, score_apply]
  show (BitVec.ofBool (decide (-(Knn.score (prt p b) i k') < -(Knn.score (prt p b) i k))) == 1#1) = _
  have e : (-(Knn.score (prt p b) i k') < -(Knn.score (prt p b) i k)) ↔ Knn.score (prt p b) i k < Knn.score (prt p b) i k' :=
    EReal.neg_lt_neg_iff
  by_cases h : Knn.score (prt p b) i k < Knn.score (prt p b) i k'
  · rw [decide_eq_true h, decide_eq_true (e.2 h)]; rfl
  · rw [decide_eq_false h, decide_eq_false fun h' => h (e.1 h')]; rfl

/-! ### Edges -/

/-- Node `r`'s edge to its `t`-th nearest node. -/
def edge (r : Fin 4096) (t : Fin 16) : Fin 65536 := ⟨r.val * 16 + t.val, by omega⟩

/-- The row of the `t`-th nearest node. -/
def nbRow (p : FVec Ideal S4096x3 .f32) (r : Fin 4096) (t : Fin 16) : Fin 4096 :=
  row (prot r) (Knn.nb (prt p (prot r)) (node r) t)

theorem edge_eq (e : Fin 65536) : e = edge ⟨e.val / 16, by omega⟩ ⟨e.val % 16, by omega⟩ :=
  Fin.ext (by simp only [edge]; omega)

theorem src_apply (p : FVec Ideal S4096x3 .f32) (r : Fin 4096) (t : Fin 16) :
    src (F := Ideal) p (ix1 (edge r t)) = BitVec.ofNat 32 (nbRow p r t).val := by
  have e1 : (⟨(edge r t).val / 8192, by omega⟩ : Fin 8) = prot r := Fin.ext (by simp only [edge, prot]; omega)
  have e2 : (⟨(edge r t).val / 16 % 512, by omega⟩ : Fin 512) = node r := Fin.ext (by simp only [edge, node]; omega)
  have e3 : (⟨(edge r t).val % 16, by omega⟩ : Fin 16) = t := Fin.ext (by simp only [edge]; omega)
  have e4 : (edge r t).val / 8192 = (prot r).val := congrArg Fin.val e1
  unfold src
  pointwise [near_apply]
  rw [e1, e2, e3, e4]
  unfold IntOp.addi IntOp.muli
  rw [← BitVec.ofNat_mul, ← BitVec.ofNat_add]
  exact congrArg (BitVec.ofNat 32) (by simp only [nbRow, row]; omega)

theorem dst_apply (r : Fin 4096) (t : Fin 16) : dst (ix1 (edge r t)) = BitVec.ofNat 32 r.val := by
  pointwise [dst]
  exact congrArg (BitVec.ofNat 32) (by simp only [edge]; omega)

theorem rows_apply (v : IVec S65536 32) (e : Fin 65536) (r : Fin 4096) (h : v (ix1 e) = BitVec.ofNat 32 r.val) :
    rows v (ix2 e 0) = BitVec.ofNat 32 r.val := by
  pointwise [rows]
  rw [h, Routing.wrap_of_lt]
  rw [BitVec.toNat_ofNat]; omega

theorem gatherP (p : FVec Ideal S4096x3 .f32) (v : IVec S65536 32) (e : Fin 65536) (k : Fin 3) (r : Fin 4096)
    (h : v (ix1 e) = BitVec.ofNat 32 r.val) :
    Host.gather gather_S4096x3_S65536x1_S65536x3_1_0_n_n_0_1_13 p (rows v) (ix2 e k) = p (ix2 r k) :=
  Routing.gather_row (nb := 4096) (B := 3) (n := 65536) gather_S4096x3_S65536x1_S65536x3_1_0_n_n_0_1_13
    rfl rfl rfl rfl rfl p _ e k r (rows_apply v e r h) (by decide)

theorem gatherH (x : FVec Ideal S4096x128 .f32) (v : IVec S65536 32) (e : Fin 65536) (k : Fin 128) (r : Fin 4096)
    (h : v (ix1 e) = BitVec.ofNat 32 r.val) :
    Host.gather gather_S4096x128_S65536x1_S65536x128_1_0_n_n_0_1_1128 x (rows v) (ix2 e k) = x (ix2 r k) :=
  Routing.gather_row (nb := 4096) (B := 128) (n := 65536) gather_S4096x128_S65536x1_S65536x128_1_0_n_n_0_1_1128
    rfl rfl rfl rfl rfl x _ e k r (rows_apply v e r h) (by decide)

theorem dvec_apply (p : FVec Ideal S4096x3 .f32) (r : Fin 4096) (t : Fin 16) (k : Fin 3) :
    dvec (F := Ideal) p (ix2 (edge r t) k) = Knn.dv (prt p (prot r)) (node r) t k := by
  pointwise [dvec]
  rw [gatherP p _ _ k _ (src_apply p r t), gatherP p _ _ k _ (dst_apply r t)]
  unfold Knn.dv prt nbRow
  rw [Knn.row_prot_node]

theorem d2_apply (d : FVec Ideal S65536x3 .f32) (e : Fin 65536) :
    d2 (F := Ideal) d (ix1 e) = ∑ k, d (ix2 e k) * d (ix2 e k) := by
  pointwise [d2]

theorem ds_apply (p : FVec Ideal S4096x3 .f32) (r : Fin 4096) (t : Fin 16) :
    Ideal.sqrt (d2 (F := Ideal) (dvec p) (ix1 (edge r t))) = Knn.ds (prt p (prot r)) (node r) t := by
  rw [d2_apply]
  unfold Knn.ds
  exact congrArg Ideal.sqrt (Finset.sum_congr rfl fun k _ => by rw [dvec_apply])

theorem xi_apply (p : FVec Ideal S4096x3 .f32) (r : Fin 4096) (t : Fin 16) (k : Fin 3) :
    xi (F := Ideal) (dvec p) (ix2 (edge r t) k) =
      Ideal.div (Knn.dv (prt p (prot r)) (node r) t k) (Knn.ds (prt p (prot r)) (node r) t + Knn.eps) := by
  pointwise [xi, dvec_apply]
  rw [ds_apply]
  rfl

theorem mu_apply (q : Fin 16) : mu (F := Ideal) (ix1 q) = Knn.mu q := by
  unfold mu
  pointwise []
  show (if h : q.val < 15 then
      Ideal.ofBits .f32 0x00000000#32 * (1 - Ideal.div (((BitVec.ofNat 32 q.val).toInt : ℝ) : EReal) (Ideal.ofBits .f32 0x41700000#32)) +
        Ideal.ofBits .f32 0x41A00000#32 * Ideal.div (((BitVec.ofNat 32 q.val).toInt : ℝ) : EReal) (Ideal.ofBits .f32 0x41700000#32)
    else Ideal.ofBits .f32 0x41A00000#32) = _
  rw [Knn.ofBits_zero, Knn.ofBits_fifteen, Knn.ofBits_twenty, zero_mul, zero_add, Ideal.div_coe (by norm_num)]
  unfold Knn.mu
  rw [show (BitVec.ofNat 32 q.val).toInt = (q.val : Int) by
    rw [BitVec.toInt_eq_toNat_cond, BitVec.toNat_ofNat, if_pos (by omega)]; omega]
  split
  · rw [← EReal.coe_mul, ← EReal.coe_mul]
    refine congrArg _ ?_
    push_cast
    ring
  · have : q.val = 15 := by omega
    rw [this]
    norm_num

theorem off_apply (p : FVec Ideal S4096x3 .f32) (r : Fin 4096) (t : Fin 16) (q : Fin 16) :
    off (F := Ideal) (dvec p) (ix2 (edge r t) q) = Knn.off (prt p (prot r)) (node r) t q := by
  unfold off
  pointwise [mu_apply]
  rw [ds_apply]
  rfl

theorem feat_apply (h : FVec Ideal S4096x128 .f32) (p : FVec Ideal S4096x3 .f32) (r : Fin 4096) (t : Fin 16) (x : Fin 272) :
    feat (F := Ideal) h p (ix2 (edge r t) x) =
      Knn.feat (fun i c => h (ix2 (row (prot r) i) c)) (prt p (prot r)) (node r) t x := by
  unfold feat
  pointwise [off_apply]
  unfold Knn.feat
  split
  · exact gatherH h _ _ _ _ (src_apply p r t)
  · split
    · refine (gatherH h _ _ _ _ (dst_apply r t)).trans ?_
      simp only [Knn.row_prot_node]
    · rfl

theorem msg_apply (h : FVec Ideal S4096x128 .f32) (p : FVec Ideal S4096x3 .f32) (we : FVec Ideal S272x128 .f32)
    (r : Fin 4096) (t : Fin 16) (c : Fin 128) :
    msg (F := Ideal) h p we (ix2 (edge r t) c) =
      Knn.msg (fun i c => h (ix2 (row (prot r) i) c)) (prt p (prot r)) (fun x c => we (ix2 x c)) (node r) t c := by
  unfold msg
  pointwise [feat_apply]
  rfl

theorem dstCol_apply (e : Fin 65536) : (dstCol (ix2 e 0)).toInt = ((e.val / 16 : ℕ) : Int) := by
  pointwise [dstCol, dst]
  rw [BitVec.toInt_eq_toNat_cond, BitVec.toNat_ofNat, if_pos (by omega)]
  omega

theorem lands2 (e : Fin 65536) (c c' : Fin 128) (r : Fin 4096) :
    scatter_S4096x128_S65536x1_S65536x128_1_0_0_1.resultIdx? (ix2 e c) dstCol = some (ix2 r c') ↔ e.val / 16 = r.val ∧ c = c' := by
  rw [Routing.resultIdx?_eq_some]
  have s0 : scatter_S4096x128_S65536x1_S65536x128_1_0_0_1.start (ix2 e c) dstCol 0 = ((e.val / 16 : ℕ) : Int) := by
    rw [← dstCol_apply e]
    unfold ScatterDims.start
    rw [dif_pos (by decide)]
    refine congrArg (fun q => (dstCol q).toInt) (funext fun q => ?_)
    fin_cases q <;> rfl
  have s1 : scatter_S4096x128_S65536x1_S65536x128_1_0_0_1.start (ix2 e c) dstCol 1 = 0 := by
    unfold ScatterDims.start
    rw [dif_neg (by decide)]
  have w0 : scatter_S4096x128_S65536x1_S65536x128_1_0_0_1.window (ix2 e c) 0 = 0 := rfl
  have w1 : scatter_S4096x128_S65536x1_S65536x128_1_0_0_1.window (ix2 e c) 1 = c.val := rfl
  constructor
  · intro h
    have h0 := h 0
    have h1 := h 1
    rw [s0, w0] at h0
    rw [s1, w1] at h1
    have h0 : ((e.val / 16 : ℕ) : Int) + (0 : ℕ) = (r.val : Int) := h0
    have h1 : (0 : Int) + (c.val : ℕ) = (c'.val : Int) := h1
    exact ⟨by omega, Fin.ext (by omega)⟩
  · rintro ⟨h0, rfl⟩ a
    match a with
    | ⟨0, _⟩ => exact (congrArg₂ (fun (x : Int) (y : ℕ) => x + y) s0 w0).trans (by simp [h0])
    | ⟨1, _⟩ => exact (congrArg₂ (fun (x : Int) (y : ℕ) => x + y) s1 w1).trans (by simp)

theorem lands3 (e : Fin 65536) (a a' k k' : Fin 3) (r : Fin 4096) :
    scatter_S4096x3x3_S65536x1_S65536x3x3_12_0_0_1.resultIdx? (ix3 e a k) dstCol = some (ix3 r a' k') ↔
      e.val / 16 = r.val ∧ a = a' ∧ k = k' := by
  rw [Routing.resultIdx?_eq_some]
  have s0 : scatter_S4096x3x3_S65536x1_S65536x3x3_12_0_0_1.start (ix3 e a k) dstCol 0 = ((e.val / 16 : ℕ) : Int) := by
    rw [← dstCol_apply e]
    unfold ScatterDims.start
    rw [dif_pos (by decide)]
    refine congrArg (fun q => (dstCol q).toInt) (funext fun q => ?_)
    fin_cases q <;> rfl
  have s1 : scatter_S4096x3x3_S65536x1_S65536x3x3_12_0_0_1.start (ix3 e a k) dstCol 1 = 0 := by
    unfold ScatterDims.start
    rw [dif_neg (by decide)]
  have s2 : scatter_S4096x3x3_S65536x1_S65536x3x3_12_0_0_1.start (ix3 e a k) dstCol 2 = 0 := by
    unfold ScatterDims.start
    rw [dif_neg (by decide)]
  have w0 : scatter_S4096x3x3_S65536x1_S65536x3x3_12_0_0_1.window (ix3 e a k) 0 = 0 := rfl
  have w1 : scatter_S4096x3x3_S65536x1_S65536x3x3_12_0_0_1.window (ix3 e a k) 1 = a.val := rfl
  have w2 : scatter_S4096x3x3_S65536x1_S65536x3x3_12_0_0_1.window (ix3 e a k) 2 = k.val := rfl
  constructor
  · intro h
    have h0 := h 0
    have h1 := h 1
    have h2 := h 2
    rw [s0, w0] at h0
    rw [s1, w1] at h1
    rw [s2, w2] at h2
    have h0 : ((e.val / 16 : ℕ) : Int) + (0 : ℕ) = (r.val : Int) := h0
    have h1 : (0 : Int) + (a.val : ℕ) = (a'.val : Int) := h1
    have h2 : (0 : Int) + (k.val : ℕ) = (k'.val : Int) := h2
    exact ⟨by omega, Fin.ext (by omega), Fin.ext (by omega)⟩
  · rintro ⟨h0, rfl, rfl⟩ a
    match a with
    | ⟨0, _⟩ => exact (congrArg₂ (fun (x : Int) (y : ℕ) => x + y) s0 w0).trans (by simp [h0])
    | ⟨1, _⟩ => exact (congrArg₂ (fun (x : Int) (y : ℕ) => x + y) s1 w1).trans (by simp)
    | ⟨2, _⟩ => exact (congrArg₂ (fun (x : Int) (y : ℕ) => x + y) s2 w2).trans (by simp)

/-- What lands on node `r` is the sum over its sixteen edges. -/
theorem scatterH (x : FVec Ideal S4096x128 .f32) (u : FVec Ideal S65536x128 .f32) (r : Fin 4096) (c : Fin 128) :
    Host.scatterAdd (F := Ideal) scatter_S4096x128_S65536x1_S65536x128_1_0_0_1 x dstCol u (ix2 r c) =
      x (ix2 r c) + ∑ t, u (ix2 (edge r t) c) := by
  show x (ix2 r c) + ∑ j ∈ _, u j = _
  refine congrArg (x (ix2 r c) + ·) (Finset.sum_bij (fun t _ => ix2 (edge r t) c) ?_ ?_ ?_ fun _ _ => rfl).symm
  · intro t _
    exact Finset.mem_filter.2 ⟨Finset.mem_univ _, (lands2 _ _ _ _).2 ⟨by simp only [edge]; omega, rfl⟩⟩
  · intro t _ t' _ h
    have h : (edge r t).val = (edge r t').val := congrArg (fun q : S65536x128.Idx => (q 0).val) h
    simp only [edge] at h
    exact Fin.ext (by omega)
  · intro j hj
    have hj := (Finset.mem_filter.1 hj).2
    rw [← ix2_eta j] at hj ⊢
    obtain ⟨h0, rfl⟩ := (lands2 _ _ _ _).1 hj
    refine ⟨⟨(j 0).val % 16, by omega⟩, Finset.mem_univ _, congrArg (fun e => ix2 e (j 1)) (Fin.ext ?_)⟩
    simp only [edge]; omega

theorem scatterX (x : FVec Ideal S4096x3x3 .f32) (u : FVec Ideal S65536x3x3 .f32) (r : Fin 4096) (a k : Fin 3) :
    Host.scatterAdd (F := Ideal) scatter_S4096x3x3_S65536x1_S65536x3x3_12_0_0_1 x dstCol u (ix3 r a k) =
      x (ix3 r a k) + ∑ t, u (ix3 (edge r t) a k) := by
  show x (ix3 r a k) + ∑ j ∈ _, u j = _
  refine congrArg (x (ix3 r a k) + ·) (Finset.sum_bij (fun t _ => ix3 (edge r t) a k) ?_ ?_ ?_ fun _ _ => rfl).symm
  · intro t _
    exact Finset.mem_filter.2 ⟨Finset.mem_univ _, (lands3 _ _ _ _ _ _).2 ⟨by simp only [edge]; omega, rfl, rfl⟩⟩
  · intro t _ t' _ h
    have h : (edge r t).val = (edge r t').val := congrArg (fun q : S65536x3x3.Idx => (q 0).val) h
    simp only [edge] at h
    exact Fin.ext (by omega)
  · intro j hj
    have hj := (Finset.mem_filter.1 hj).2
    rw [← ix3_eta j] at hj ⊢
    obtain ⟨h0, rfl, rfl⟩ := (lands3 _ _ _ _ _ _).1 hj
    refine ⟨⟨(j 0).val % 16, by omega⟩, Finset.mem_univ _, congrArg (fun e => ix3 e (j 1) (j 2)) (Fin.ext ?_)⟩
    simp only [edge]; omega

theorem newH_apply (h : FVec Ideal S4096x128 .f32) (p : FVec Ideal S4096x3 .f32) (wh : FVec Ideal S128x128 .f32)
    (we : FVec Ideal S272x128 .f32) (r : Fin 4096) (c : Fin 128) :
    newH (F := Ideal) h p wh we (ix2 r c) =
      Knn.newH (fun i c => h (ix2 (row (prot r) i) c)) (prt p (prot r)) (fun x c => wh (ix2 x c)) (fun x c => we (ix2 x c))
        (node r) c := by
  unfold newH
  pointwise [scatterH, msg_apply]
  unfold Knn.newH
  simp only [Knn.row_prot_node]

theorem upd_apply (h : FVec Ideal S4096x128 .f32) (p : FVec Ideal S4096x3 .f32) (we : FVec Ideal S272x128 .f32)
    (ws : FVec Ideal S128x3 .f32) (r : Fin 4096) (t : Fin 16) (a k : Fin 3) :
    upd (F := Ideal) h p we ws (ix3 (edge r t) a k) =
      Knn.gate (fun i c => h (ix2 (row (prot r) i) c)) (prt p (prot r)) (fun x c => we (ix2 x c)) (fun x c => ws (ix2 x c))
        (node r) t a * Ideal.div (Knn.dv (prt p (prot r)) (node r) t k) (Knn.ds (prt p (prot r)) (node r) t + Knn.eps) := by
  unfold upd
  pointwise [xi_apply, msg_apply]
  exact mul_comm _ _

theorem newX_apply (h : FVec Ideal S4096x128 .f32) (x : FVec Ideal S4096x3x3 .f32) (we : FVec Ideal S272x128 .f32)
    (ws : FVec Ideal S128x3 .f32) (r : Fin 4096) (m : Fin 9) :
    flat (newX (F := Ideal) h x we ws) r m = flat x r m +
      Knn.newD (fun i c => h (ix2 (row (prot r) i) c)) (prt (pos (F := Ideal) x) (prot r)) (fun x c => we (ix2 x c))
        (fun x c => ws (ix2 x c)) (node r) m := by
  unfold flat newX
  pointwise [scatterX, upd_apply]
  rfl

end Cert.ReferenceIdeal.Lay

end
-- ==== Proof.RNet.lean ====
/- The reference's result at an index: the network of `Net` over the argument arrays, where no node is masked. -/
module

public import proofs.«01_k».proof.Proof.RVal

@[expose] public section

set_option maxRecDepth 16384

noncomputable section

namespace Cert.ReferenceIdeal.Lay

open Idealize.ShloMosaic Idealize.ShloMosaic.Pointwise Cert.ReferenceIdeal.Gen Cert.ReferenceIdeal.Read
open Cert.Knn (row prot node layerH layerX)

/-- A matrix read at its two coordinates, and layer `l` of a stack of matrices. -/
abbrev mat {N M : ℕ} (X : FVec Ideal ⟨2, ![N, M]⟩ .f32) (r : Fin N) (c : Fin M) : EReal := X (ix2 r c)
abbrev stk {N M : ℕ} (X : FVec Ideal ⟨3, ![3, N, M]⟩ .f32) (l : Fin 3) (r : Fin N) (c : Fin M) : EReal := X (ix3 l r c)

theorem flat_center (x : FVec Ideal S4096x3x3 .f32) (r : Fin 4096) (m : Fin 9) :
    flat (center (F := Ideal) x) r m = Knn.cen (flat x) r m := by
  unfold flat Knn.cen
  rw [center_apply]
  refine congrArg (fun s => _ - Ideal.div s _) (Finset.sum_congr rfl fun s _ => ?_)
  refine congrArg₂ (fun a k => x (ix3 s a k)) (Fin.ext ?_) (Fin.ext ?_)
  · show 1 = (3 + m.val % 3) / 3; omega
  · show m.val % 3 = (3 + m.val % 3) % 3; omega

theorem prt_center (x : FVec Ideal S4096x3x3 .f32) (b : Fin 8) :
    prt (pos (F := Ideal) (center (F := Ideal) x)) b = Knn.pOf (flat x) b := by
  funext i k
  unfold prt Knn.pOf
  rw [pos_apply, ← flat_center]
  unfold flat
  refine congrArg₂ (fun a k => center (F := Ideal) x (ix3 (row b i) a k)) (Fin.ext ?_) (Fin.ext ?_)
  · show 1 = (3 + k.val) / 3; omega
  · show k.val = (3 + k.val) % 3; omega

theorem layerH_eq (h : FVec Ideal S4096x128 .f32) (x : FVec Ideal S4096x3x3 .f32) (wh : FVec Ideal S128x128 .f32)
    (we : FVec Ideal S272x128 .f32) :
    mat (newH (F := Ideal) h (pos (F := Ideal) (center (F := Ideal) x)) wh we) = layerH (mat h) (flat x) (mat wh) (mat we) := by
  funext r c
  unfold mat
  rw [newH_apply, prt_center]
  rfl

theorem layerX_eq (h : FVec Ideal S4096x128 .f32) (x : FVec Ideal S4096x3x3 .f32) (we : FVec Ideal S272x128 .f32)
    (ws : FVec Ideal S128x3 .f32) :
    flat (newX (F := Ideal) h (center (F := Ideal) x) we ws) = layerX (mat h) (flat x) (mat we) (mat ws) := by
  funext r m
  rw [newX_apply, prt_center, flat_center]
  rfl

theorem out_apply (X : FVec Ideal S4096x3x3 .f32) (b : Fin 8) (i : Fin 512) (k : Fin 9) :
    shapeCast S8x512x9 (mulf (F := Ideal) (shapeCast S4096x9 X shapeCasts_S4096x3x3_S4096x9)
      (broadcastInDim S4096x9 ![] bcast_S_S4096x9 (constant S_ .f32 0x41200000#32))) shapeCasts_S4096x9_S8x512x9 (ix3 b i k) =
      flat X (row b i) k * Knn.scale := by
  unfold flat
  pointwise []
  rfl

variable (x0 : FVec Ideal S4096x128 .f32) (x1 : IVec S4096 1) (x4 : FVec Ideal S128x9 .f32) (x5 : FVec Ideal S3x128x128 .f32)
  (x6 : FVec Ideal S3x272x128 .f32) (x7 : FVec Ideal S3x128x3 .f32)

theorem wh0 : mat (val_main_v12 (F := Ideal) x5) = stk x5 0 := by
  funext r c; pointwise [mat, val_main_v12, val_main_v11]
theorem wh1 : mat (val_main_v118 (F := Ideal) x5) = stk x5 1 := by
  funext r c; pointwise [mat, val_main_v118, val_main_v117]
theorem we0 : mat (val_main_v14 (F := Ideal) x6) = stk x6 0 := by
  funext r c; pointwise [mat, val_main_v14, val_main_v13]
theorem we1 : mat (val_main_v120 (F := Ideal) x6) = stk x6 1 := by
  funext r c; pointwise [mat, val_main_v120, val_main_v119]
theorem we2 : mat (val_main_v226 (F := Ideal) x6) = stk x6 2 := by
  funext r c; pointwise [mat, val_main_v226, val_main_v225]
theorem ws0 : mat (val_main_v16 (F := Ideal) x7) = stk x7 0 := by
  funext r c; pointwise [mat, val_main_v16, val_main_v15]
theorem ws1 : mat (val_main_v122 (F := Ideal) x7) = stk x7 1 := by
  funext r c; pointwise [mat, val_main_v122, val_main_v121]
theorem ws2 : mat (val_main_v228 (F := Ideal) x7) = stk x7 2 := by
  funext r c; pointwise [mat, val_main_v228, val_main_v227]

variable (hm : ∀ r, x1 (ix1 r) = 1#1)
include hm

theorem v1_eq : val_main_v1 (F := Ideal) x0 x1 = x0 := by
  funext i
  obtain ⟨r, c, rfl⟩ : ∃ (r : Fin 4096) (c : Fin 128), i = ix2 r c := ⟨i 0, i 1, (ix2_eta i).symm⟩
  pointwise [val_main_v1, val_main_call0_v1, val_main_v0]
  rw [hm]
  rfl

theorem x1_net : flat (val_main_v3 (F := Ideal) x0 x1 x4) = Knn.x1 (mat x0) (mat x4) := by
  funext r m
  unfold flat
  pointwise [val_main_v3, val_main_v2]
  rw [v1_eq x0 x1 hm]
  rfl

theorem h2_net : mat (val_main_v99 (F := Ideal) x0 x1 x4 x5 x6) = Knn.h2 (mat x0) (mat x4) (stk x5) (stk x6) := by
  rw [h1_eq, layerH_eq, v1_eq x0 x1 hm, x1_net x0 x1 x4 hm, wh0, we0]; rfl

theorem x2_net : flat (val_main_v109 (F := Ideal) x0 x1 x4 x6 x7) = Knn.x2 (mat x0) (mat x4) (stk x6) (stk x7) := by
  rw [x1_eq, layerX_eq, v1_eq x0 x1 hm, x1_net x0 x1 x4 hm, we0, ws0]; rfl

theorem h3_net : mat (val_main_v205 (F := Ideal) x0 x1 x4 x5 x6 x7) =
    Knn.h3 (mat x0) (mat x4) (stk x5) (stk x6) (stk x7) := by
  rw [h2_eq, layerH_eq, h2_net x0 x1 x4 x5 x6 hm, x2_net x0 x1 x4 x6 x7 hm, wh1, we1]; rfl

theorem x3_net : flat (val_main_v215 (F := Ideal) x0 x1 x4 x5 x6 x7) =
    Knn.x3 (mat x0) (mat x4) (stk x5) (stk x6) (stk x7) := by
  rw [x2_eq, layerX_eq, h2_net x0 x1 x4 x5 x6 hm, x2_net x0 x1 x4 x6 x7 hm, we1, ws1]; rfl

theorem x4_net : flat (val_main_v321 (F := Ideal) x0 x1 x4 x5 x6 x7) =
    Knn.x4 (mat x0) (mat x4) (stk x5) (stk x6) (stk x7) := by
  rw [x3_eq, layerX_eq, h3_net x0 x1 x4 x5 x6 x7 hm, x3_net x0 x1 x4 x5 x6 x7 hm, we2, ws2]; rfl

theorem net_at (b : Fin 8) (i : Fin 512) (k : Fin 9) :
    val_main_v332 (F := Ideal) x0 x1 x4 x5 x6 x7 (ix3 b i k) =
      Knn.net (mat x0) (mat x4) (stk x5) (stk x6) (stk x7) (row b i) k := by
  unfold Knn.net Knn.output
  rw [← x4_net x0 x1 x4 x5 x6 x7 hm, ← flat_center, out_eq]
  exact out_apply _ b i k

end Cert.ReferenceIdeal.Lay

end
-- ==== Proof.Pre.lean ====
/- What the precondition says of the argument arrays: no node is masked, and the values that reach the coordinates of the
   third layer are real numbers. -/
module

public import proofs.«01_k».proof.Proof.Net
public import proofs.«01_k».proof.Pre_unmasked_finite
public import Idealize.ShloMosaic.Lib.ReduceAll
public import Idealize.ShloMosaic.Lib.Pointwise

@[expose] public section

set_option maxRecDepth 16384

noncomputable section

namespace Cert.Pre_unmasked_finite

open Idealize.ShloMosaic Idealize.ShloMosaic.Pointwise
open Cert.Knn (IsReal Finite)

theorem facts : Facts where
  reducesTo_S4096_S_d0 := by decide
  h_S_ := by decide
  bcast_S_S4096x128 := by decide
  reducesTo_S4096x128_S_d0_1 := by decide
  bcast_S_S128x9 := by decide
  reducesTo_S128x9_S_d0_1 := by decide
  slices_S3x128x128_S1x128x128_0_0_0 := by decide
  bcast_S_S1x128x128 := by decide
  reducesTo_S1x128x128_S_d0_1_2 := by decide
  slices_S3x272x128_S2x272x128_0_0_0 := by decide
  bcast_S_S2x272x128 := by decide
  reducesTo_S2x272x128_S_d0_1_2 := by decide
  slices_S3x128x3_S2x128x3_0_0_0 := by decide
  bcast_S_S2x128x3 := by decide
  reducesTo_S2x128x3_S_d0_1_2 := by decide

theorem andi_one {a b : BitVec 1} (h : IntOp.andi a b = 1#1) : a = 1#1 ∧ b = 1#1 := by
  revert h; revert a b; decide

theorem fold_one {ι : Type} [Fintype ι] (f : ι → BitVec 1) (h : Finset.fold IntOp.andi (1#1) f Finset.univ = 1#1) (k : ι) :
    f k = 1#1 :=
  ((Finset.fold_op_rel_iff_and (r := fun _ y => y = 1#1) (op := IntOp.andi) (c := 0#1)
    fun {_ y z} => ⟨andi_one, by revert y z; decide⟩).1 h).2 k (Finset.mem_univ k)

/-- A value whose magnitude is below infinity is a real number. -/
theorem isReal_of_lt {x : EReal}
    (h : BitVec.ofBool (decide (FloatOps.absf (F := Ideal) (φ := .f32) x < Ideal.ofBits .f32 0x7F800000#32)) = 1#1) : IsReal x := by
  have h : max x (-x) < Ideal.ofBits .f32 0x7F800000#32 := by
    by_contra hn
    have e : decide (FloatOps.absf (F := Ideal) (φ := .f32) x < Ideal.ofBits .f32 0x7F800000#32) = false := decide_eq_false hn
    rw [e] at h
    exact absurd h (by decide)
  rw [Knn.ofBits_inf] at h
  induction x with
  | bot => exact absurd (lt_of_le_of_lt (le_max_right _ _) h) (by simp)
  | top => exact absurd (lt_of_le_of_lt (le_max_left _ _) h) (by simp)
  | coe r => exact ⟨r, rfl⟩

variable [Facts]
open Facts

variable (x0 : FVec Ideal S4096x128 .f32) (x1 : IVec S4096 1) (x2 : IVec S4096 32) (x3 : IVec S9 32) (x4 : FVec Ideal S128x9 .f32)
  (x5 : FVec Ideal S3x128x128 .f32) (x6 : FVec Ideal S3x272x128 .f32) (x7 : FVec Ideal S3x128x3 .f32)

theorem finite (h : fn (F := Ideal) x0 x1 x2 x3 x4 x5 x6 x7 = fun _ => 1#1) :
    (∀ r, x1 (ix1 r) = 1#1) ∧ Finite (fun r c => x0 (ix2 r c)) (fun r c => x4 (ix2 r c)) (fun l r c => x5 (ix3 l r c))
      (fun l r c => x6 (ix3 l r c)) (fun l r c => x7 (ix3 l r c)) := by
  haveI : Subsingleton S_.Idx := ⟨fun a b => funext fun q => q.elim0⟩
  have h := congrFun h ix0
  unfold fn fn_part1 at h
  pointwise [] at h
  obtain ⟨h, h7⟩ := andi_one h
  obtain ⟨h, h6⟩ := andi_one h
  obtain ⟨h, h5⟩ := andi_one h
  obtain ⟨h, h4⟩ := andi_one h
  obtain ⟨h1, h0⟩ := andi_one h
  refine ⟨fun r => fold_one _ h1 r, fun r c => isReal_of_lt (fold_one _ h0 (r, c)), fun r c => isReal_of_lt (fold_one _ h4 (r, c)),
    fun r c => isReal_of_lt (fold_one _ h5 (0, r, c)), fun l hl r c => ?_, fun l hl r c => ?_⟩
  · exact isReal_of_lt (fold_one _ h6 (⟨l.val, by omega⟩, r, c))
  · exact isReal_of_lt (fold_one _ h7 (⟨l.val, by omega⟩, r, c))

end Cert.Pre_unmasked_finite

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KFold
public import proofs.«01_k».proof.Proof.RNet
public import proofs.«01_k».proof.Proof.Pre

@[expose] public section

set_option maxRecDepth 16384

noncomputable section

namespace Cert.Proof

open Idealize.ShloMosaic Idealize.SL.Sem Idealize.ShloMosaic.Pointwise

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "far" .f32 0x501502F9#32 ⊤ rfl,
    IdealRules.named_const.statement Cert.KernelIdeal.κ "rbf_step" .f32 0x3FAAAAAB#32 ((4 / 3 : ℝ) : EReal) rfl⟩

instance preFacts : Cert.Pre_unmasked_finite.Facts := Cert.Pre_unmasked_finite.facts

theorem algebraic : Cert.algebraic_KernelIdeal_ReferenceIdeal_pre_unmasked_finite := fun m g m' g' hpre hagree => by
  refine ⟨fun c => Cert.KernelIdeal.Gen.W9 m g c (Proc.devRef .tc Cert.KernelIdeal.main_v23), ?_, ?_⟩
  · exact (θ_run Cert.KernelIdeal.defs _ _).mono (fun r h => h.1) (Cert.KernelIdeal.Lay.run (F := Ideal) m g)
  · refine (θ_run Cert.ReferenceIdeal.defs _ _).mono (fun r h c => ⟨(h c).1.trans ?_, (h c).2⟩)
      (Cert.ReferenceIdeal.Value.run (F := Ideal) m' g')
    obtain ⟨hm, hF⟩ := Cert.Pre_unmasked_finite.finite _ _ _ _ _ _ _ _ (hpre c)
    obtain ⟨a0, a1, _, _, a4, a5, a6, a7⟩ := hagree c
    refine (Cert.ReferenceIdeal.Read.val_main_v332_eq _).trans ?_
    refine funext fun i => ?_
    obtain ⟨b, n, k, rfl⟩ : ∃ (b : Fin 8) (n : Fin 512) (k : Fin 9), i = ix3 b n k := ⟨i 0, i 1, i 2, (ix3_eta i).symm⟩
    refine Eq.trans ?_ (Cert.KernelIdeal.Lay.result_at m g c hF b n k).symm
    show Cert.ReferenceIdeal.Read.val_main_v332 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) (ix3 b n k) = _
    rw [a0, a1, a4, a5, a6, a7]
    exact Cert.ReferenceIdeal.Lay.net_at _ _ _ _ _ _ hm b n k

theorem claim : Cert.Claim :=
  ⟨Cert.Kernel.Gen.facts, Cert.KernelIdeal.Gen.facts, Cert.ReferenceIdeal.Gen.facts, Cert.Pre_unmasked_finite.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, algebraic⟩

end Cert.Proof

end
